-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  IdealRules.named_const.Statement Cert.Kernel5Ideal.κ "mask" .f32 0xF149F2CA#32 ⊥

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v29)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v29) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v99) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
-- ==== Pre_finite.lean ====
abbrev S16384x512 : Shape := ⟨2, ![16384, 512]⟩
abbrev S16384x128 : Shape := ⟨2, ![16384, 128]⟩
abbrev S16384x32 : Shape := ⟨2, ![16384, 32]⟩
abbrev S8 : Shape := ⟨1, ![8]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S16384x32 : S_.BroadcastsInDim S16384x32 (![] : Fin 0 → Fin S16384x32.rank)
  reducesTo_S16384x32_S_d0_1 : S16384x32.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg3 : FVec F S16384x32 .f32) (main_arg4 : FVec F S16384x32 .f32) (main_arg5 : FVec F S8 .f32) (main_v12 : IVec S_ 1) (main_v14 : IVec S16384x32 1) (main_v15 : FVec F S16384x32 .f32) : IVec S_ 1 :=
  let main_v16 : IVec S16384x32 1 := cmpf .ogt main_arg3 main_v15
  let main_v17 : IVec S16384x32 1 := andi main_v14 main_v16
  let main_c_6 : IVec S_ 1 := constantI S_ 1 1#1
  let main_v18 : IVec S_ 1 := (fun x v => Host.reduce IntOp.andi x v reducesTo_S16384x32_S_d0_1 h_S_) main_v17 main_c_6
  let main_v19 : IVec S_ 1 := andi main_v12 main_v18
  let main_cst_7 : FVec F S_ .f32 := constant S_ .f32 0x7F800000#32
  let main_v20 : FVec F S16384x32 .f32 := broadcastInDim S16384x32 ![] bcast_S_S16384x32 main_cst_7
  let main_v21 : IVec S16384x32 1 := cmpf .olt main_arg4 main_v20
  let main_cst_8 : FVec F S_ .f32 := constant S_ .f32 0xFF800000#32
  let main_v22 : FVec F S16384x32 .f32 := broadcastInDim S16384x32 ![] bcast_S_S16384x32 main_cst_8
  let main_v23 : IVec S16384x32 1 := cmpf .ogt main_arg4 main_v22
  let main_v24 : IVec S16384x32 1 := andi main_v21 main_v23
  let main_c_9 : IVec S_ 1 := constantI S_ 1 1#1
  let main_v25 : IVec S_ 1 := (fun x v => Host.reduce IntOp.andi x v reducesTo_S16384x32_S_d0_1 h_S_) main_v24 main_c_9
  let main_v26 : IVec S_ 1 := andi main_v19 main_v25
  let main_cst_10 : FVec F S_ .f32 := constant S_ .f32 0x7F800000#32
  let main_v27 : FVec F S8 .f32 := broadcastInDim S8 ![] bcast_S_S8 main_cst_10
  let main_v28 : IVec S8 1 := cmpf .olt main_arg5 main_v27
  let main_cst_11 : FVec F S_ .f32 := constant S_ .f32 0xFF800000#32
  let main_v29 : FVec F S8 .f32 := broadcastInDim S8 ![] bcast_S_S8 main_cst_11
  let main_v30 : IVec S8 1 := cmpf .ogt main_arg5 main_v29
  let main_v31 : IVec S8 1 := andi main_v28 main_v30
  let main_c_12 : IVec S_ 1 := constantI S_ 1 1#1
  let main_v32 : IVec S_ 1 := (fun x v => Host.reduce IntOp.andi x v reducesTo_S8_S_d0 h_S_) main_v31 main_c_12
  fn_part2 (F := F) main_v26 main_v32

def fn {F : FTy → Type} [FloatOps F] (main_arg0 : FVec F S16384x512 .f32) (main_arg1 : FVec F S16384x128 .f32) (main_arg2 : FVec F S16384x128 .f32) (main_arg3 : FVec F S16384x32 .f32) (main_arg4 : FVec F S16384x32 .f32) (main_arg5 : FVec F S8 .f32) : IVec S_ 1 :=
  let main_cst : FVec F S_ .f32 := constant S_ .f32 0x7F800000#32
  let main_v0 : FVec F S16384x512 .f32 := broadcastInDim S16384x512 ![] bcast_S_S16384x512 main_cst
  let main_v1 : IVec S16384x512 1 := cmpf .olt main_arg0 main_v0
  let main_cst_0 : FVec F S_ .f32 := constant S_ .f32 0xFF800000#32
  let main_v2 : FVec F S16384x512 .f32 := broadcastInDim S16384x512 ![] bcast_S_S16384x512 main_cst_0
  let main_v3 : IVec S16384x512 1 := cmpf .ogt main_arg0 main_v2
  let main_v4 : IVec S16384x512 1 := andi main_v1 main_v3
  let main_c : IVec S_ 1 := constantI S_ 1 1#1
  let main_v5 : IVec S_ 1 := (fun x v => Host.reduce IntOp.andi x v reducesTo_S16384x512_S_d0_1 h_S_) main_v4 main_c
  let main_cst_1 : FVec F S_ .f32 := constant S_ .f32 0x7F800000#32
  let main_v6 : FVec F S16384x128 .f32 := broadcastInDim S16384x128 ![] bcast_S_S16384x128 main_cst_1
  let main_v7 : IVec S16384x128 1 := cmpf .olt main_arg1 main_v6
  let main_cst_2 : FVec F S_ .f32 := constant S_ .f32 0xFF800000#32
  let main_v8 : FVec F S16384x128 .f32 := broadcastInDim S16384x128 ![] bcast_S_S16384x128 main_cst_2
  let main_v9 : IVec S16384x128 1 := cmpf .ogt main_arg1 main_v8
  let main_v10 : IVec S16384x128 1 := andi main_v7 main_v9
  let main_c_3 : IVec S_ 1 := constantI S_ 1 1#1
  let main_v11 : IVec S_ 1 := (fun x v => Host.reduce IntOp.andi x v reducesTo_S16384x128_S_d0_1 h_S_) main_v10 main_c_3
  let main_v12 : IVec S_ 1 := andi main_v5 main_v11
  let main_cst_4 : FVec F S_ .f32 := constant S_ .f32 0x7F800000#32
  let main_v13 : FVec F S16384x32 .f32 := broadcastInDim S16384x32 ![] bcast_S_S16384x32 main_cst_4
  let main_v14 : IVec S16384x32 1 := cmpf .olt main_arg3 main_v13
  let main_cst_5 : FVec F S_ .f32 := constant S_ .f32 0xFF800000#32
  let main_v15 : FVec F S16384x32 .f32 := broadcastInDim S16384x32 ![] bcast_S_S16384x32 main_cst_5
  fn_part1 (F := F) main_arg3 main_arg4 main_arg5 main_v12 main_v14 main_v15
-- ==== Kernel.lean ====
abbrev S16384x1024 : Shape := ⟨2, ![16384, 1024]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S1024x1 : Shape := ⟨2, ![1024, 1]⟩
abbrev S1024x256 : Shape := ⟨2, ![1024, 256]⟩
abbrev S256x256 : Shape := ⟨2, ![256, 256]⟩

abbrev nBuf : Space → Nat
  | .hbm => 10
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S256x1024, .bf16⟩
  | .hbm, ⟨4, _⟩ => ⟨S256x1024, .bf16⟩
  | .hbm, ⟨5, _⟩ => ⟨S1024x1024, .f32⟩
  | .hbm, ⟨6, _⟩ => ⟨S1x1024, .f32⟩
  | .hbm, ⟨7, _⟩ => ⟨S1024x1024, .bf16⟩
  | .hbm, ⟨8, _⟩ => ⟨S1024x1024, .bf16⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16384x1024 : Shape := ⟨2, ![16384, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4x256 : Shape := ⟨3, ![16384, 4, 256]⟩
abbrev S256x4x256 : Shape := ⟨3, ![256, 4, 256]⟩
abbrev S4x16384x256 : Shape := ⟨3, ![4, 16384, 256]⟩
abbrev S4x16384 : Shape := ⟨2, ![4, 16384]⟩
abbrev S4x16384x1 : Shape := ⟨3, ![4, 16384, 1]⟩
abbrev S4x256x16384 : Shape := ⟨3, ![4, 256, 16384]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x1024, .f32⟩
  | .hbm, ⟨3, _⟩ => ⟨S256x1024, .bf16⟩
  | .hbm, ⟨4, _⟩ => ⟨S256x1024, .bf16⟩
  | .hbm, ⟨5, _⟩ => ⟨S1024x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x4x256, .f32⟩
  | .hbm, ⟨24, _⟩ => ⟨S256x1024, .f32⟩
  | .hbm, ⟨25, _⟩ => ⟨S256x4x256, .f32⟩
  | .hbm, ⟨26, _⟩ => ⟨S256x1024, .f32⟩
  | .hbm, ⟨27, _⟩ => ⟨S256x4x256, .f32⟩
  | .hbm, ⟨28, _⟩ => ⟨S4x16384x256, .f32⟩
  | .hbm, ⟨29, _⟩ => ⟨S_, .f32⟩
  | .hbm, ⟨30, _⟩ => ⟨S4x16384x256, .f32⟩
  | .hbm, ⟨31, _⟩ => ⟨S4x16384x256, .f32⟩
  | .hbm, ⟨32, _⟩ => ⟨S_, .f32⟩
  | .hbm, ⟨33, _⟩ => ⟨S4x16384, .f32⟩
  | .hbm, ⟨34, _⟩ => ⟨S_, .f32⟩
  | .hbm, ⟨35, _⟩ => ⟨S4x16384, .f32⟩
  | .hbm, ⟨36, _⟩ => ⟨S4x16384, .f32⟩
  | .hbm, ⟨37, _⟩ => ⟨S4x16384x1, .f32⟩
  | .hbm, ⟨38, _⟩ => ⟨S4x16384x256, .f32⟩
  | .hbm, ⟨39, _⟩ => ⟨S4x16384x256, .f32⟩
  | .hbm, ⟨40, _⟩ => ⟨S4x16384x256, .f32⟩
  | .hbm, ⟨41, _⟩ => ⟨S_, .f32⟩
  | .hbm, ⟨42, _⟩ => ⟨S4x16384, .f32⟩
  | .hbm, ⟨43, _⟩ => ⟨S4x16384x1, .f32⟩
  | .hbm, ⟨44, _⟩ => ⟨S4x16384x256, .f32⟩
  | .hbm, ⟨45, _⟩ => ⟨S4x16384x256, .f32⟩
  | .hbm, ⟨46, _⟩ => ⟨S4x256x16384, .f32⟩
  | .hbm, ⟨47, _⟩ => ⟨S16384x4x256, .f32⟩
  | .hbm, ⟨48, _⟩ => ⟨S16384x1024, .f32⟩
  | .hbm, ⟨49, _⟩ => ⟨S16384x1024, .f32⟩
  | .hbm, ⟨50, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel2.lean ====
abbrev S256x1024 : Shape := ⟨2, ![256, 1024]⟩
abbrev S1024 : Shape := ⟨1, ![1024]⟩
abbrev S1024x1024 : Shape := ⟨2, ![1024, 1024]⟩
abbrev S1x1024 : Shape := ⟨2, ![1, 1024]⟩
abbrev S256 : Shape := ⟨1, ![256]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S256x1024, .bf16⟩
  | .hbm, ⟨8, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference2Ideal.lean ====
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .bf16⟩
  | .hbm, ⟨22, _⟩ => ⟨S256x1024, .f32⟩
  | .hbm, ⟨23, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x9216 : Shape := ⟨2, ![1024, 9216]⟩
abbrev S1x1024 : Shape := ⟨2, ![1, 1024]⟩
abbrev S16384x9216 : Shape := ⟨2, ![16384, 9216]⟩
abbrev S16384x512 : Shape := ⟨2, ![16384, 512]⟩
abbrev S2048x1024 : Shape := ⟨2, ![2048, 1024]⟩
abbrev S1024x1024 : Shape := ⟨2, ![1024, 1024]⟩
abbrev S2048x512 : Shape := ⟨2, ![2048, 512]⟩
abbrev S2048 : Shape := ⟨1, ![2048]⟩
abbrev S2048x1 : Shape := ⟨2, ![2048, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x9216, .bf16⟩
  | .hbm, ⟨3, _⟩ => ⟨S1x1024, .f32⟩
  | .hbm, ⟨4, _⟩ => ⟨S16384x9216, .bf16⟩
  | .hbm, ⟨5, _⟩ => ⟨S16384x512, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x512, .f32⟩
  | .local _ .vmem, ⟨8, _⟩ => ⟨S2048x512, .f32⟩
  | .local _ .vmem, ⟨9, _⟩ => ⟨S2048x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 9], ![false, false]⟩

def k0_cond2 (i : grid0.Coords) : BitVec 1 :=
  let arg1 : BitVec 32 := BitVec.ofNat 32 (i 1).val
  let c3_i32 : BitVec 32 := 3#32
  let v8 : BitVec 1 := Scalar.cmpi .eq arg1 c3_i32
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S16384x1024 : Shape := ⟨2, ![16384, 1024]⟩
abbrev S1024 : Shape := ⟨1, ![1024]⟩
abbrev S1024x9216 : Shape := ⟨2, ![1024, 9216]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x9216 : Shape := ⟨2, ![16384, 9216]⟩
abbrev S16384x512 : Shape := ⟨2, ![16384, 512]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x9216, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x9216, .f32⟩
  | .hbm, ⟨20, _⟩ => ⟨S16384x9216, .f32⟩
  | .hbm, ⟨21, _⟩ => ⟨S16384x512, .f32⟩
  | .hbm, ⟨22, _⟩ => ⟨S16384x9216, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel4.lean ====
abbrev S16384x1024 : Shape := ⟨2, ![16384, 1024]⟩
abbrev S16384x9216 : Shape := ⟨2, ![16384, 9216]⟩
abbrev S16384x512 : Shape := ⟨2, ![16384, 512]⟩
abbrev S512 : Shape := ⟨1, ![512]⟩
abbrev S512x1024 : Shape := ⟨2, ![512, 1024]⟩
abbrev S1024x1024 : Shape := ⟨2, ![1024, 1024]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S1024x128 : Shape := ⟨2, ![1024, 128]⟩

abbrev nBuf : Space → Nat
  | .hbm => 16
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S16384x9216, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S512, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1x512, .f32⟩
  | .hbm, ⟨11, _⟩ => ⟨S512x1024, .bf16⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x512, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S1024x1024, .f32⟩
  | .local _ .vmem, ⟨24, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S16384x1024 : Shape := ⟨2, ![16384, 1024]⟩
abbrev S16384x9216 : Shape := ⟨2, ![16384, 9216]⟩
abbrev S16384x512 : Shape := ⟨2, ![16384, 512]⟩
abbrev S512 : Shape := ⟨1, ![512]⟩
abbrev S512x1024 : Shape := ⟨2, ![512, 1024]⟩
abbrev S1024x1024 : Shape := ⟨2, ![1024, 1024]⟩
abbrev S16384x3072 : Shape := ⟨2, ![16384, 3072]⟩
abbrev S16384x3x1024 : Shape := ⟨3, ![16384, 3, 1024]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S16384x4x128 : Shape := ⟨3, ![16384, 4, 128]⟩
abbrev S16384x4 : Shape := ⟨2, ![16384, 4]⟩
abbrev S16384x4x1 : Shape := ⟨3, ![16384, 4, 1]⟩
abbrev S16384x1x1024 : Shape := ⟨3, ![16384, 1, 1024]⟩

abbrev nBuf : Space → Nat
  | .hbm => 93
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x9216, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S512, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S16384x9216, .f32⟩
  | .hbm, ⟨11, _⟩ => ⟨S16384x512, .f32⟩
  | .hbm, ⟨12, _⟩ => ⟨S16384x512, .f32⟩
  | .hbm, ⟨13, _⟩ => ⟨S16384x3072, .f32⟩
  | .hbm, ⟨14, _⟩ => ⟨S16384x3x1024, .f32⟩
  | .hbm, ⟨15, _⟩ => ⟨S16384x3x1024, .f32⟩
  | .hbm, ⟨16, _⟩ => ⟨S16384x3x1024, .f32⟩
  | .hbm, ⟨17, _⟩ => ⟨S_, .f32⟩
  | .hbm, ⟨18, _⟩ => ⟨S16384x3x1024, .f32⟩
  | .hbm, ⟨19, _⟩ => ⟨S16384x3x1024, .f32⟩
  | .hbm, ⟨20, _⟩ => ⟨S_, .f32⟩
  | .hbm, ⟨21, _⟩ => ⟨S16384x3x1024, .f32⟩
  | .hbm, ⟨22, _⟩ => ⟨S16384x3x1024, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x512, .f32⟩
  | .hbm, ⟨36, _⟩ => ⟨S16384x512, .f32⟩
  | .hbm, ⟨37, _⟩ => ⟨S1x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x4x128, .f32⟩
  | .hbm, ⟨52, _⟩ => ⟨S16384x4x128, .f32⟩
  | .hbm, ⟨53, _⟩ => ⟨S_, .f32⟩
  | .hbm, ⟨54, _⟩ => ⟨S16384x4, .f32⟩
  | .hbm, ⟨55, _⟩ => ⟨S16384x4x1, .f32⟩
  | .hbm, ⟨56, _⟩ => ⟨S_, .f32⟩
  | .hbm, ⟨57, _⟩ => ⟨S16384x4x1, .f32⟩
  | .hbm, ⟨58, _⟩ => ⟨S16384x4x1, .f32⟩
  | .hbm, ⟨59, _⟩ => ⟨S_, .f32⟩
  | .hbm, ⟨60, _⟩ => ⟨S16384x4x1, .f32⟩
  | .hbm, ⟨61, _⟩ => ⟨S16384x4x1, .f32⟩
  | .hbm, ⟨62, _⟩ => ⟨S16384x4x1, .f32⟩
  | .hbm, ⟨63, _⟩ => ⟨S16384x4x128, .f32⟩
  | .hbm, ⟨64, _⟩ => ⟨S16384x4x128, .f32⟩
  | .hbm, ⟨65, _⟩ => ⟨S16384x512, .f32⟩
  | .hbm, ⟨66, _⟩ => ⟨S16384x512, .f32⟩
  | .hbm, ⟨67, _⟩ => ⟨S16384x512, .f32⟩
  | .hbm, ⟨68, _⟩ => ⟨S_, .f32⟩
  | .hbm, ⟨69, _⟩ => ⟨S16384x512, .f32⟩
  | .hbm, ⟨70, _⟩ => ⟨S16384x512, .f32⟩
  | .hbm, ⟨71, _⟩ => ⟨S_, .f32⟩
  | .hbm, ⟨72, _⟩ => ⟨S16384x512, .f32⟩
  | .hbm, ⟨73, _⟩ => ⟨S16384x512, .f32⟩
  | .hbm, ⟨74, _⟩ => ⟨S16384x512, .f32⟩
  | .hbm, ⟨75, _⟩ => ⟨S16384x512, .f32⟩
  | .hbm, ⟨76, _⟩ => ⟨S16384x1x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1x1024, .f32⟩
  | .hbm, ⟨86, _⟩ => ⟨S16384x1024, .f32⟩
  | .hbm, ⟨87, _⟩ => ⟨S16384x512, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩

abbrev nD : Nat := 1
abbrev τ : Topo := Topo.v7x

variable {F : FTy → Type} [FloatOps F]
-- ==== Kernel5.lean ====
abbrev S16384x512 : Shape := ⟨2, ![16384, 512]⟩
abbrev S16384x128 : Shape := ⟨2, ![16384, 128]⟩
abbrev S16384x32 : Shape := ⟨2, ![16384, 32]⟩
abbrev S8 : Shape := ⟨1, ![8]⟩
abbrev S16384x2x1x64 : Shape := ⟨4, ![16384, 2, 1, 64]⟩
abbrev S_ : Shape := ⟨0, ![]⟩
abbrev S16384x2x2x64 : Shape := ⟨4, ![16384, 2, 2, 64]⟩
abbrev S16384x256 : Shape := ⟨2, ![16384, 256]⟩
abbrev S16384x7168 : Shape := ⟨2, ![16384, 7168]⟩
abbrev S16384x8x64 : Shape := ⟨3, ![16384, 8, 64]⟩
abbrev S16384x8x32 : Shape := ⟨3, ![16384, 8, 32]⟩
abbrev S16384x2x64 : Shape := ⟨3, ![16384, 2, 64]⟩
abbrev S16384x2x32 : Shape := ⟨3, ![16384, 2, 32]⟩
abbrev S16384x9216 : Shape := ⟨2, ![16384, 9216]⟩
abbrev S512x512 : Shape := ⟨2, ![512, 512]⟩
abbrev S512x256 : Shape := ⟨2, ![512, 256]⟩
abbrev S128x256 : Shape := ⟨2, ![128, 256]⟩
abbrev S512x128 : Shape := ⟨2, ![512, 128]⟩
abbrev S128x128 : Shape := ⟨2, ![128, 128]⟩
abbrev S640x128 : Shape := ⟨2, ![640, 128]⟩
abbrev S256x128 : Shape := ⟨2, ![256, 128]⟩
abbrev S1 : Shape := ⟨1, ![1]⟩
abbrev S128 : Shape := ⟨1, ![128]⟩
abbrev S128x1 : Shape := ⟨2, ![128, 1]⟩

abbrev nBuf : Space → Nat
  | .hbm => 38
  | .vmem => 30
  | .smem => 1
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S16384x32, .f32⟩
  | .hbm, ⟨4, _⟩ => ⟨S16384x32, .f32⟩
  | .hbm, ⟨5, _⟩ => ⟨S8, .f32⟩
  | .hbm, ⟨6, _⟩ => ⟨S16384x128, .f32⟩
  | .hbm, ⟨7, _⟩ => ⟨S16384x128, .f32⟩
  | .hbm, ⟨8, _⟩ => ⟨S16384x2x1x64, .f32⟩
  | .hbm, ⟨9, _⟩ => ⟨S_, .f32⟩
  | .hbm, ⟨10, _⟩ => ⟨S16384x2x1x64, .f32⟩
  | .hbm, ⟨11, _⟩ => ⟨S16384x2x2x64, .f32⟩
  | .hbm, ⟨12, _⟩ => ⟨S16384x256, .f32⟩
  | .hbm, ⟨13, _⟩ => ⟨S16384x2x2x64, .f32⟩
  | .hbm, ⟨14, _⟩ => ⟨S16384x256, .f32⟩
  | .hbm, ⟨15, _⟩ => ⟨S_, .f32⟩
  | .hbm, ⟨16, _⟩ => ⟨S16384x7168, .f32⟩
  | .hbm, ⟨17, _⟩ => ⟨S16384x8x64, .f32⟩
  | .hbm, ⟨18, _⟩ => ⟨S16384x8x32, .f32⟩
  | .hbm, ⟨19, _⟩ => ⟨S16384x8x32, .f32⟩
  | .hbm, ⟨20, _⟩ => ⟨S16384x8x32, .f32⟩
  | .hbm, ⟨21, _⟩ => ⟨S16384x8x64, .f32⟩
  | .hbm, ⟨22, _⟩ => ⟨S16384x512, .f32⟩
  | .hbm, ⟨23, _⟩ => ⟨S16384x2x1x64, .f32⟩
  | .hbm, ⟨24, _⟩ => ⟨S16384x2x2x64, .f32⟩
  | .hbm, ⟨25, _⟩ => ⟨S16384x256, .f32⟩
  | .hbm, ⟨26, _⟩ => ⟨S16384x2x64, .f32⟩
  | .hbm, ⟨27, _⟩ => ⟨S16384x2x32, .f32⟩
  | .hbm, ⟨28, _⟩ => ⟨S16384x2x32, .f32⟩
  | .hbm, ⟨29, _⟩ => ⟨S16384x2x32, .f32⟩
  | .hbm, ⟨30, _⟩ => ⟨S16384x2x64, .f32⟩
  | .hbm, ⟨31, _⟩ => ⟨S16384x128, .f32⟩
  | .hbm, ⟨32, _⟩ => ⟨S16384x2x1x64, .f32⟩
  | .hbm, ⟨33, _⟩ => ⟨S16384x2x2x64, .f32⟩
  | .hbm, ⟨34, _⟩ => ⟨S16384x256, .f32⟩
  | .hbm, ⟨35, _⟩ => ⟨S16384x9216, .f32⟩
  | .hbm, ⟨36, _⟩ => ⟨S16384x9216, .bf16⟩
  | .hbm, ⟨37, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S128x256, .bf16⟩
  | .local _ .vmem, ⟨13, _⟩ => ⟨S128x256, .bf16⟩
  | .local _ .vmem, ⟨14, _⟩ => ⟨S128x256, .bf16⟩
  | .local _ .vmem, ⟨15, _⟩ => ⟨S128x256, .bf16⟩
  | .local _ .vmem, ⟨16, _⟩ => ⟨S128x256, .bf16⟩
  | .local _ .vmem, ⟨17, _⟩ => ⟨S128x256, .bf16⟩
  | .local _ .vmem, ⟨18, _⟩ => ⟨S128x256, .bf16⟩
  | .local _ .vmem, ⟨19, _⟩ => ⟨S128x256, .bf16⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S512x512, .bf16⟩
  | .local _ .vmem, ⟨29, _⟩ => ⟨S512x512, .bf16⟩
  | .local _ .smem, ⟨0, _⟩ => ⟨S8, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_2 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_3 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_4 (i : grid0.Coords) : Fin 2 → Nat :=
  let arg0 : BitVec 32 := BitVec.ofNat 32 (i 0).val
  let c33_i32 : BitVec 32 := 33#32
  let c0_i32 : BitVec 32 := 0#32
  ![arg0.toNat, c33_i32.toNat]

def cc0_transform_5 (i : grid0.Coords) : Fin 2 → Nat :=
  let arg0 : BitVec 32 := BitVec.ofNat 32 (i 0).val
  let c34_i32 : BitVec 32 := 34#32
  let c0_i32 : BitVec 32 := 0#32
  ![arg0.toNat, c34_i32.toNat]

def cc0_transform_6 (i : grid0.Coords) : Fin 2 → Nat :=
  let arg0 : BitVec 32 := BitVec.ofNat 32 (i 0).val
  let c35_i32 : BitVec 32 := 35#32
  let c0_i32 : BitVec 32 := 0#32
  ![arg0.toNat, c35_i32.toNat]

def cc0_transform_7 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c32_i32 : BitVec 32 := 32#32
  let c0_i32_0 : BitVec 32 := 0#32
  ![v2.toNat, c32_i32.toNat]

def cc0_transform_8 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c33_i32 : BitVec 32 := 33#32
  let c0_i32_0 : BitVec 32 := 0#32
  ![v2.toNat, c33_i32.toNat]

def cc0_transform_9 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c34_i32 : BitVec 32 := 34#32
  let c0_i32_0 : BitVec 32 := 0#32
  ![v2.toNat, c34_i32.toNat]

def cc0_transform_10 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c35_i32 : BitVec 32 := 35#32
  let c0_i32_0 : BitVec 32 := 0#32
  ![v2.toNat, c35_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_14 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel5Ideal.lean ====
variable {F : FTy → Type} [FloatOps F] [Named F]
def κ : String → Option EReal := fun
  | "mask" => some ⊥
  | _ => none
-- ==== Reference5Ideal.lean ====
abbrev S16384x512 : Shape := ⟨2, ![16384, 512]⟩
abbrev S16384x128 : Shape := ⟨2, ![16384, 128]⟩
abbrev S16384x32 : Shape := ⟨2, ![16384, 32]⟩
abbrev S8 : Shape := ⟨1, ![8]⟩
abbrev S16384x8x64 : Shape := ⟨3, ![16384, 8, 64]⟩
abbrev S16384x8x32 : Shape := ⟨3, ![16384, 8, 32]⟩
abbrev S16384x1x32 : Shape := ⟨3, ![16384, 1, 32]⟩
abbrev S8x16384x64 : Shape := ⟨3, ![8, 16384, 64]⟩
abbrev S16384x2x64 : Shape := ⟨3, ![16384, 2, 64]⟩
abbrev S16384x2x32 : Shape := ⟨3, ![16384, 2, 32]⟩
abbrev S2x16384x64 : Shape := ⟨3, ![2, 16384, 64]⟩
abbrev S2x4x128x128x64 : Shape := ⟨5, ![2, 4, 128, 128, 64]⟩
abbrev S2x128x128x64 : Shape := ⟨4, ![2, 128, 128, 64]⟩
abbrev S_ : Shape := ⟨0, ![]⟩
abbrev S2x129x128x64 : Shape := ⟨4, ![2, 129, 128, 64]⟩
abbrev S2x128x256x64 : Shape := ⟨4, ![2, 128, 256, 64]⟩
abbrev S2x128x256x4x128 : Shape := ⟨5, ![2, 128, 256, 4, 128]⟩
abbrev S2x4x128x128x256 : Shape := ⟨5, ![2, 4, 128, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S2x4x1x1x1 : Shape := ⟨5, ![2, 4, 1, 1, 1]⟩
abbrev S2x4x128x128 : Shape := ⟨4, ![2, 4, 128, 128]⟩
abbrev S2x4x128x128x1 : Shape := ⟨5, ![2, 4, 128, 128, 1]⟩
abbrev S2x128x64x4x128 : Shape := ⟨5, ![2, 128, 64, 4, 128]⟩

abbrev nBuf : Space → Nat
  | .hbm => 122
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S16384x32, .f32⟩
  | .hbm, ⟨4, _⟩ => ⟨S16384x32, .f32⟩
  | .hbm, ⟨5, _⟩ => ⟨S8, .f32⟩
  | .hbm, ⟨6, _⟩ => ⟨S16384x8x64, .f32⟩
  | .hbm, ⟨7, _⟩ => ⟨S16384x8x32, .f32⟩
  | .hbm, ⟨8, _⟩ => ⟨S16384x8x32, .f32⟩
  | .hbm, ⟨9, _⟩ => ⟨S16384x1x32, .f32⟩
  | .hbm, ⟨10, _⟩ => ⟨S16384x1x32, .f32⟩
  | .hbm, ⟨11, _⟩ => ⟨S16384x8x32, .f32⟩
  | .hbm, ⟨12, _⟩ => ⟨S16384x8x32, .f32⟩
  | .hbm, ⟨13, _⟩ => ⟨S16384x8x32, .f32⟩
  | .hbm, ⟨14, _⟩ => ⟨S16384x8x32, .f32⟩
  | .hbm, ⟨15, _⟩ => ⟨S16384x8x32, .f32⟩
  | .hbm, ⟨16, _⟩ => ⟨S16384x8x32, .f32⟩
  | .hbm, ⟨17, _⟩ => ⟨S16384x8x32, .f32⟩
  | .hbm, ⟨18, _⟩ => ⟨S16384x8x32, .f32⟩
  | .hbm, ⟨19, _⟩ => ⟨S16384x8x32, .f32⟩
  | .hbm, ⟨20, _⟩ => ⟨S16384x8x32, .f32⟩
  | .hbm, ⟨21, _⟩ => ⟨S16384x8x64, .f32⟩
  | .hbm, ⟨22, _⟩ => ⟨S8x16384x64, .f32⟩
  | .hbm, ⟨23, _⟩ => ⟨S16384x2x64, .f32⟩
  | .hbm, ⟨24, _⟩ => ⟨S16384x2x32, .f32⟩
  | .hbm, ⟨25, _⟩ => ⟨S16384x2x32, .f32⟩
  | .hbm, ⟨26, _⟩ => ⟨S16384x1x32, .f32⟩
  | .hbm, ⟨27, _⟩ => ⟨S16384x1x32, .f32⟩
  | .hbm, ⟨28, _⟩ => ⟨S16384x2x32, .f32⟩
  | .hbm, ⟨29, _⟩ => ⟨S16384x2x32, .f32⟩
  | .hbm, ⟨30, _⟩ => ⟨S16384x2x32, .f32⟩
  | .hbm, ⟨31, _⟩ => ⟨S16384x2x32, .f32⟩
  | .hbm, ⟨32, _⟩ => ⟨S16384x2x32, .f32⟩
  | .hbm, ⟨33, _⟩ => ⟨S16384x2x32, .f32⟩
  | .hbm, ⟨34, _⟩ => ⟨S16384x2x32, .f32⟩
  | .hbm, ⟨35, _⟩ => ⟨S16384x2x32, .f32⟩
  | .hbm, ⟨36, _⟩ => ⟨S16384x2x32, .f32⟩
  | .hbm, ⟨37, _⟩ => ⟨S16384x2x32, .f32⟩
  | .hbm, ⟨38, _⟩ => ⟨S16384x2x64, .f32⟩
  | .hbm, ⟨39, _⟩ => ⟨S2x16384x64, .f32⟩
  | .hbm, ⟨40, _⟩ => ⟨S16384x2x64, .f32⟩
  | .hbm, ⟨41, _⟩ => ⟨S2x16384x64, .f32⟩
  | .hbm, ⟨42, _⟩ => ⟨S2x4x128x128x64, .f32⟩
  | .hbm, ⟨43, _⟩ => ⟨S2x128x128x64, .f32⟩
  | .hbm, ⟨44, _⟩ => ⟨S_, .i32⟩
  | .hbm, ⟨45, _⟩ => ⟨S_, .f32⟩
  | .hbm, ⟨46, _⟩ => ⟨S2x129x128x64, .f32⟩
  | .hbm, ⟨47, _⟩ => ⟨S2x128x128x64, .f32⟩
  | .hbm, ⟨48, _⟩ => ⟨S2x128x256x64, .f32⟩
  | .hbm, ⟨49, _⟩ => ⟨S2x128x128x64, .f32⟩
  | .hbm, ⟨50, _⟩ => ⟨S_, .i32⟩
  | .hbm, ⟨51, _⟩ => ⟨S_, .f32⟩
  | .hbm, ⟨52, _⟩ => ⟨S2x129x128x64, .f32⟩
  | .hbm, ⟨53, _⟩ => ⟨S2x128x128x64, .f32⟩
  | .hbm, ⟨54, _⟩ => ⟨S2x128x256x64, .f32⟩
  | .hbm, ⟨55, _⟩ => ⟨S2x128x256x4x128, .f32⟩
  | .hbm, ⟨56, _⟩ => ⟨S2x4x128x128x256, .f32⟩
  | .hbm, ⟨57, _⟩ => ⟨S_, .f32⟩
  | .hbm, ⟨58, _⟩ => ⟨S2x4x128x128x256, .f32⟩
  | .hbm, ⟨59, _⟩ => ⟨S2x4x128x128x256, .f32⟩
  | .hbm, ⟨60, _⟩ => ⟨S128, .i32⟩
  | .hbm, ⟨61, _⟩ => ⟨S128x1, .i32⟩
  | .hbm, ⟨62, _⟩ => ⟨S_, .i32⟩
  | .hbm, ⟨63, _⟩ => ⟨S128x1, .i32⟩
  | .hbm, ⟨64, _⟩ => ⟨S128x1, .i32⟩
  | .hbm, ⟨65, _⟩ => ⟨S256, .i32⟩
  | .hbm, ⟨66, _⟩ => ⟨S1x256, .i32⟩
  | .hbm, ⟨67, _⟩ => ⟨S128x256, .i32⟩
  | .hbm, ⟨68, _⟩ => ⟨S128x256, .i32⟩
  | .hbm, ⟨69, _⟩ => ⟨S128x256, .i32⟩
  | .hbm, ⟨70, _⟩ => ⟨S_, .i32⟩
  | .hbm, ⟨71, _⟩ => ⟨S128x256, .i32⟩
  | .hbm, ⟨72, _⟩ => ⟨S128x256, .i1⟩
  | .hbm, ⟨73, _⟩ => ⟨S_, .i32⟩
  | .hbm, ⟨74, _⟩ => ⟨S128x256, .i32⟩
  | .hbm, ⟨75, _⟩ => ⟨S128x256, .i1⟩
  | .hbm, ⟨76, _⟩ => ⟨S128x256, .i1⟩
  | .hbm, ⟨77, _⟩ => ⟨S128, .i32⟩
  | .hbm, ⟨78, _⟩ => ⟨S_, .i32⟩
  | .hbm, ⟨79, _⟩ => ⟨S128, .i32⟩
  | .hbm, ⟨80, _⟩ => ⟨S128, .i1⟩
  | .hbm, ⟨81, _⟩ => ⟨S128x1x1, .i1⟩
  | .hbm, ⟨82, _⟩ => ⟨S_, .i32⟩
  | .hbm, ⟨83, _⟩ => ⟨S1x256, .i32⟩
  | .hbm, ⟨84, _⟩ => ⟨S1x256, .i1⟩
  | .hbm, ⟨85, _⟩ => ⟨S1x1x256, .i1⟩
  | .hbm, ⟨86, _⟩ => ⟨S128x1x256, .i1⟩
  | .hbm, ⟨87, _⟩ => ⟨S128x1x256, .i1⟩
  | .hbm, ⟨88, _⟩ => ⟨S128x1x256, .i1⟩
  | .hbm, ⟨89, _⟩ => ⟨S1x128x256, .i1⟩
  | .hbm, ⟨90, _⟩ => ⟨S128x128x256, .i1⟩
  | .hbm, ⟨91, _⟩ => ⟨S128x128x256, .i1⟩
  | .hbm, ⟨92, _⟩ => ⟨S128x128x256, .i1⟩
  | .hbm, ⟨93, _⟩ => ⟨S_, .f32⟩
  | .hbm, ⟨94, _⟩ => ⟨S_, .f32⟩
  | .hbm, ⟨95, _⟩ => ⟨S2x4x128x128x256, .i1⟩
  | .hbm, ⟨96, _⟩ => ⟨S2x4x128x128x256, .f32⟩
  | .hbm, ⟨97, _⟩ => ⟨S2x4x128x128x256, .f32⟩
  | .hbm, ⟨98, _⟩ => ⟨S2x4x1x1x1, .f32⟩
  | .hbm, ⟨99, _⟩ => ⟨S_, .f32⟩
  | .hbm, ⟨100, _⟩ => ⟨S2x4x128x128, .f32⟩
  | .hbm, ⟨101, _⟩ => ⟨S2x4x128x128x1, .f32⟩
  | .hbm, ⟨102, _⟩ => ⟨S2x4x128x128x1, .f32⟩
  | .hbm, ⟨103, _⟩ => ⟨S2x4x128x128x1, .f32⟩
  | .hbm, ⟨104, _⟩ => ⟨S2x4x128x128x256, .f32⟩
  | .hbm, ⟨105, _⟩ => ⟨S2x4x128x128x256, .f32⟩
  | .hbm, ⟨106, _⟩ => ⟨S2x4x128x128x256, .f32⟩
  | .hbm, ⟨107, _⟩ => ⟨S_, .f32⟩
  | .hbm, ⟨108, _⟩ => ⟨S2x4x128x128, .f32⟩
  | .hbm, ⟨109, _⟩ => ⟨S2x4x128x128x1, .f32⟩
  | .hbm, ⟨110, _⟩ => ⟨S2x4x128x128x1, .f32⟩
  | .hbm, ⟨111, _⟩ => ⟨S2x4x128x128x1, .f32⟩
  | .hbm, ⟨112, _⟩ => ⟨S2x4x128x128x1, .f32⟩
  | .hbm, ⟨113, _⟩ => ⟨S2x4x128x128x1, .f32⟩
  | .hbm, ⟨114, _⟩ => ⟨S2x4x128x128x256, .f32⟩
  | .hbm, ⟨115, _⟩ => ⟨S2x4x128x128x256, .f32⟩
  | .hbm, ⟨116, _⟩ => ⟨S2x128x64x4x128, .f32⟩
  | .hbm, ⟨117, _⟩ => ⟨S2x4x128x128x64, .f32⟩
  | .hbm, ⟨118, _⟩ => ⟨S8x16384x64, .f32⟩
  | .hbm, ⟨119, _⟩ => ⟨S16384x8x64, .f32⟩
  | .hbm, ⟨120, _⟩ => ⟨S16384x512, .f32⟩
  | .hbm, ⟨121, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_c : Ref sig .tc := ⟨.hbm, 44, rfl⟩
abbrev main_call0_v0 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_c_0 : Ref sig .tc := ⟨.hbm, 50, rfl⟩
abbrev main_call1_v0 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_1 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_c_2 : Ref sig .tc := ⟨.hbm, 70, rfl⟩
abbrev main_v58 : Ref sig .tc := ⟨.hbm, 71, rfl⟩
abbrev main_v59 : Ref sig .tc := ⟨.hbm, 72, rfl⟩
abbrev main_c_3 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_c_4 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_c_5 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_6 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_v77 : Ref sig .tc := ⟨.hbm, 97, rfl⟩
abbrev main_v78 : Ref sig .tc := ⟨.hbm, 98, rfl⟩
abbrev main_cst_7 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_8 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩

abbrev nD : Nat := 1
abbrev τ : Topo := Topo.v7x

variable {F : FTy → Type} [FloatOps F]

def κ : String → Option EReal := fun
  | "mask" => some ⊥
  | _ => none
-- ==== Proof.Spec.lean ====
/- The row formulas both sides of every claim are read down to, over extended reals. -/
module

public import Idealize.ShloMosaic.Lib.Pointwise

@[expose] public section

set_option maxRecDepth 16384

noncomputable section

namespace Cert.Spec

open Idealize.ShloMosaic

/-- A row of `n` numbers scaled to unit mean square: `c` is the row length as a constant, `1e-6` is added under the root. -/
def unitRow {n : Nat} (c : EReal) (x : Fin n → EReal) (j : Fin n) : EReal :=
  x j * Ideal.rsqrt (Ideal.div (∑ k, x k * x k) c + Ideal.ofBits .f32 0x358637BD#32)

/-- A row times a matrix. -/
def rowMul {n p : Nat} (u : Fin n → EReal) (w : Fin n → Fin p → EReal) (d : Fin p) : EReal := ∑ k, u k * w k d

/-- The scaled scores of one query row against the 256 memory keys of one head. -/
def score (q : Fin 256 → EReal) (k : Fin 256 → Fin 256 → EReal) (m : Fin 256) : EReal :=
  (∑ e, q e * k m e) * Ideal.ofBits .f32 0x3D800000#32

/-- The exponential of a score less the row's largest score. -/
def weight (s : Fin 256 → EReal) (m : Fin 256) : EReal :=
  Ideal.exp (s m - Finset.univ.fold max (Ideal.ofBits .f32 0xFF800000#32) s)

/-- One head's attention: the values averaged with the softmax of the scores. -/
def attend (q : Fin 256 → EReal) (k v : Fin 256 → Fin 256 → EReal) (d : Fin 256) : EReal :=
  ∑ m, Ideal.div (weight (score q k) m) (∑ m', weight (score q k) m') * v m d

/-- Column `e` of head `h` in a row of four heads of 256. -/
def headCol (h : Fin 4) (e : Fin 256) : Fin 1024 := ⟨h.val * 256 + e.val, by omega⟩

/-- A column is the one its head and its place in the head name. -/
theorem headCol_div_mod (j : Fin 1024) : headCol ⟨j.val / 256, by omega⟩ ⟨j.val % 256, by omega⟩ = j :=
  Fin.ext (by show j.val / 256 * 256 + j.val % 256 = j.val; omega)

/-- The four heads' outputs of one token, laid side by side. -/
def heads (q : Fin 1024 → EReal) (k v : Fin 256 → Fin 1024 → EReal) (j : Fin 1024) : EReal :=
  attend (fun e => q (headCol ⟨j.val / 256, by omega⟩ e)) (fun m e => k m (headCol ⟨j.val / 256, by omega⟩ e))
    (fun m e => v m (headCol ⟨j.val / 256, by omega⟩ e)) ⟨j.val % 256, by omega⟩

/-- The cross-attention block on one token's row: normalise, project to queries, attend, project back, add. -/
def crossRow (x g : Fin 1024 → EReal) (wq : Fin 1024 → Fin 1024 → EReal) (k v : Fin 256 → Fin 1024 → EReal)
    (wo : Fin 1024 → Fin 1024 → EReal) (l : Fin 1024) : EReal :=
  x l + rowMul (heads (rowMul (fun j => unitRow (Ideal.ofBits .f32 0x44800000#32) x j * g j) wq) k v) wo l

/-- A row scaled to unit mean square, scaled column by column, times a matrix. -/
def normMul {n p : Nat} (c : EReal) (x g : Fin n → EReal) (w : Fin n → Fin p → EReal) (d : Fin p) : EReal :=
  rowMul (fun j => unitRow c x j * g j) w d

/-- The logistic gate. -/
def gate (a : EReal) : EReal := Ideal.div 1 (1 + Ideal.exp (-a))

/-- A number times its own gate. -/
def swish (a : EReal) : EReal := a * gate a

/-- Each group of 128 columns scaled to unit mean square by itself. -/
def groupUnit (x : Fin 512 → EReal) (j : Fin 512) : EReal :=
  unitRow (Ideal.ofBits .f32 0x43000000#32) (fun e : Fin 128 => x ⟨j.val / 128 * 128 + e.val, by omega⟩) ⟨j.val % 128, by omega⟩

/-- Three gated mixer rows summed. -/
def mixRow (ga gb gc : Fin 1024 → EReal) (hg rg oa ob oc hn : Fin 512 → EReal) (wa wb wc : Fin 512 → Fin 1024 → EReal) (j : Fin 1024) : EReal :=
  (gate (ga j) * rowMul (fun k => unitRow (Ideal.ofBits .f32 0x44000000#32) oa k * hn k * swish (hg k)) wa j
    + gate (gb j) * rowMul (fun k => groupUnit ob k * swish (rg k)) wb j) + gate (gc j) * rowMul oc wc j

/-- The gated merge of one token's three mixer rows, projected and added to the token. -/
def mergeRow (x ga gb gc : Fin 1024 → EReal) (hg rg oa ob oc hn : Fin 512 → EReal) (wa wb wc : Fin 512 → Fin 1024 → EReal)
    (wo : Fin 1024 → Fin 1024 → EReal) (l : Fin 1024) : EReal :=
  x l + rowMul (mixRow ga gb gc hg rg oa ob oc hn wa wb wc) wo l

/-- A running maximum is at least where it starts. -/
theorem max_fold_self {ι : Type*} (s : Finset ι) (b : EReal) (f : ι → EReal) :
    max b (s.fold max b f) = s.fold max b f :=
  max_eq_right (Finset.le_fold_max b |>.2 (Or.inl le_rfl))

/-- The host's maximum over the last of three axes, read at an index. -/
theorem hostMax_last {a b n : Nat} {u : Shape} (v : FVec Ideal ⟨3, ![a, b, n]⟩ .f32) (c : FVec Ideal u .f32)
    (h : (⟨3, ![a, b, n]⟩ : Shape).ReducesTo [2] ⟨2, ![a, b]⟩) (hu : 0 < u.numel) (i : Fin a) (j : Fin b) :
    Host.reduce FloatOps.maximumf v c h hu (ix2 i j)
      = Finset.univ.fold max (c (Shape.Idx.first hu)) fun k : Fin n => v (ix3 i j k) := by
  simp only [pointwise]

end Cert.Spec
-- ==== Proof.Xattn.Body.lean ====
/- The cross-attention kernel's block: what one grid point stores, read at a row and a column. -/
module

public import proofs.«01_k».proof.Proof.Gen.KernelIdeal.Value
public import proofs.«01_k».proof.Proof.Spec
public import Idealize.ShloMosaic.Lib.Pipeline.ValueKit

@[expose] public section

set_option maxRecDepth 16384

noncomputable section

namespace Cert.Xattn

open Cert.KernelIdeal Cert.KernelIdeal.Gen Cert.Spec Idealize.ShloMosaic Idealize.ShloMosaic.TcCoe Idealize.SL.Sem

/-- The query projection of a block of tokens. -/
theorem q_apply (x : Vec Ideal S1024x1024 .f32) (g : Vec Ideal S1x1024 .f32) (w : Vec Ideal S1024x1024 .bf16) (r d : Fin 1024) :
    k0_pay2 (F := Ideal) x g w (ix2 r d)
      = rowMul (fun j => unitRow (Ideal.ofBits .f32 0x44800000#32) (fun l => x (ix2 r l)) j * g (ix2 0 j)) (fun j l => w (ix2 j l)) d := by
  pointwise [k0_pay2]
  rfl

/-- One head of the block: the queries against that head's keys and values. -/
theorem head_apply (q : FVec Ideal S1024x256 .bf16) (k v : Vec Ideal S256x256 .bf16) (r : Fin 1024) (d : Fin 256) :
    k0_pay5 (F := Ideal) q k v (ix2 r d) = attend (fun e => q (ix2 r e)) (fun m e => k (ix2 m e)) (fun m e => v (ix2 m e)) d := by
  pointwise [k0_pay5]
  rfl

/-- The four heads side by side, projected back and added to the block of tokens. -/
def tail (x : Vec Ideal S1024x1024 .f32) (a0 a1 a2 a3 : FVec Ideal S1024x256 .f32) (wo : Vec Ideal S1024x1024 .bf16) : FVec Ideal S1024x1024 .f32 :=
  addf x (matmul (φ₁ := .bf16) (φ₂ := .bf16) dot_S1024x1024_S1024x1024_S1024x1024_1_0_0_1_n_n none
    (truncf .bf16 (concatenate S1024x1024 1 [⟨S1024x256, a0⟩, ⟨S1024x256, a1⟩, ⟨S1024x256, a2⟩, ⟨S1024x256, a3⟩]
      concatenates_S1024x256_S1024x256_S1024x256_S1024x256_S1024x1024_d1) bitsLt_bf16_f32)
    (shapeCast S1024x1024 wo shapeCasts_S1024x1024_S1024x1024) (constant S1024x1024 .f32 0x00000000#32))

/-- Head 0's payload is the head payload of the first 256 columns of the queries. -/
theorem pay3_eq (x : Vec Ideal S1024x1024 .f32) (g : Vec Ideal S1x1024 .f32) (w : Vec Ideal S1024x1024 .bf16) (k v : Vec Ideal S256x256 .bf16) :
    k0_pay3 (F := Ideal) x g w k v
      = k0_pay5 (truncf .bf16 (extractStridedSlice S1024x256 ![0, 0] (k0_pay2 x g w) slices_S1024x1024_o0_0_S1024x256) bitsLt_bf16_f32) k v := by
  unfold k0_pay3
  generalize k0_pay2 x g w = q
  rfl

/-- Head 2's payload likewise, of the third 256 columns. -/
theorem pay6_eq (q : FVec Ideal S1024x1024 .f32) (k v : Vec Ideal S256x256 .bf16) :
    k0_pay6 (F := Ideal) q k v
      = k0_pay5 (truncf .bf16 (extractStridedSlice S1024x256 ![0, 512] q slices_S1024x1024_o0_512_S1024x256) bitsLt_bf16_f32) k v := rfl

/-- The last payload computes head 3 the same way and then ends as `tail`. -/
theorem pay1_eq (x : Vec Ideal S1024x1024 .f32) (a0 a1 a2 : FVec Ideal S1024x256 .f32) (q : FVec Ideal S1024x1024 .f32) (k v : Vec Ideal S256x256 .bf16)
    (wo : Vec Ideal S1024x1024 .bf16) :
    k0_pay1 (F := Ideal) x a0 a1 a2 (k0_pay7 q k) (k0_pay8 (F := Ideal)) v wo
      = tail x a0 a1 a2
          (k0_pay5 (truncf .bf16 (extractStridedSlice S1024x256 ![0, 768] q slices_S1024x1024_o0_768_S1024x256) bitsLt_bf16_f32) k v) wo := rfl

/-- The joined heads at a column, when each piece holds its head's attention. -/
theorem joined (q : Fin 1024 → EReal) (k v : Fin 256 → Fin 1024 → EReal) (b : Fin 4 → Fin 256 → EReal)
    (hb : ∀ h d, b h d = attend (fun e => q (headCol h e)) (fun m e => k m (headCol h e)) (fun m e => v m (headCol h e)) d) (j : Fin 1024) :
    (if h : j.val < 256 then b 0 ⟨j.val, h⟩
      else if h : j.val - 256 < 256 then b 1 ⟨j.val - 256, h⟩
      else if h : j.val - 256 - 256 < 256 then b 2 ⟨j.val - 256 - 256, h⟩
      else b 3 ⟨j.val - 256 - 256 - 256, by omega⟩) = heads q k v j := by
  have key : ∀ (h : Fin 4) (d : Fin 256), h.val = j.val / 256 → d.val = j.val % 256 → b h d = heads q k v j := by
    intro h d eh ed
    have e1 : h = ⟨j.val / 256, by omega⟩ := Fin.ext eh
    have e2 : d = ⟨j.val % 256, by omega⟩ := Fin.ext ed
    rw [e1, e2]
    exact hb _ _
  have hj := j.isLt
  split_ifs with h0 h1 h2
  · exact key _ _ (by show 0 = _; omega) (by show j.val = _; omega)
  · exact key _ _ (by show 1 = _; omega) (by show j.val - 256 = _; omega)
  · exact key _ _ (by show 2 = _; omega) (by show j.val - 256 - 256 = _; omega)
  · exact key _ _ (by show 3 = _; omega) (by show j.val - 256 - 256 - 256 = _; omega)

/-- The last steps at a row and a column, when each piece holds its head's attention. -/
theorem tail_apply (x : Vec Ideal S1024x1024 .f32) (a0 a1 a2 a3 : FVec Ideal S1024x256 .f32) (wo : Vec Ideal S1024x1024 .bf16)
    (q : Fin 1024 → EReal) (k v : Fin 256 → Fin 1024 → EReal) (r l : Fin 1024)
    (h0 : ∀ d, a0 (ix2 r d) = attend (fun e => q (headCol 0 e)) (fun m e => k m (headCol 0 e)) (fun m e => v m (headCol 0 e)) d)
    (h1 : ∀ d, a1 (ix2 r d) = attend (fun e => q (headCol 1 e)) (fun m e => k m (headCol 1 e)) (fun m e => v m (headCol 1 e)) d)
    (h2 : ∀ d, a2 (ix2 r d) = attend (fun e => q (headCol 2 e)) (fun m e => k m (headCol 2 e)) (fun m e => v m (headCol 2 e)) d)
    (h3 : ∀ d, a3 (ix2 r d) = attend (fun e => q (headCol 3 e)) (fun m e => k m (headCol 3 e)) (fun m e => v m (headCol 3 e)) d) :
    tail x a0 a1 a2 a3 wo (ix2 r l) = x (ix2 r l) + rowMul (heads q k v) (fun j l => wo (ix2 j l)) l := by
  pointwise [tail]
  unfold rowMul
  refine congrArg (x (ix2 r l) + ·) (Finset.sum_congr rfl fun j _ => congrArg (· * wo (ix2 j l)) ?_)
  refine Eq.trans ?_ (joined q k v (fun h d => match h with
    | 0 => a0 (ix2 r d) | 1 => a1 (ix2 r d) | 2 => a2 (ix2 r d) | 3 => a3 (ix2 r d)) ?_ j)
  · rfl
  · intro h d
    fin_cases h
    · exact h0 d
    · exact h1 d
    · exact h2 d
    · exact h3 d

/-- What a grid point stores, at a row and a column of its block: the cross-attention of that row's token. -/
theorem block_apply (x0 : Vec Ideal S1024x1024 .f32) (x1 : Vec Ideal S1x1024 .f32) (x2 : Vec Ideal S1024x1024 .bf16)
    (x3 x4 : Vec Ideal S256x1024 .bf16) (x5 : Vec Ideal S1024x1024 .bf16) (r l : Fin 1024) :
    out0_6 (F := Ideal) x0 x1 x2 x3 x4 x5 (ix2 r l)
      = crossRow (fun l => x0 (ix2 r l)) (fun j => x1 (ix2 0 j)) (fun j l => x2 (ix2 j l)) (fun m d => x3 (ix2 m d))
          (fun m d => x4 (ix2 m d)) (fun j l => x5 (ix2 j l)) l := by
  frame_out
  have hq := q_apply x0 x1 x2 r
  rw [pay1_eq, pay6_eq, pay3_eq]
  unfold k0_pay9 k0_pay4
  dsimp only
  have hz : (![0, 0] : Fin 2 → Nat) = fun _ => 0 := funext fun a => by fin_cases a <;> rfl
  rw [View.ld_unit_zero hz, View.ld_unit_zero hz, View.ld_unit_zero hz]
  generalize k0_pay2 (F := Ideal) x0 x1 x2 = q at hq ⊢
  unfold crossRow
  refine tail_apply x0 _ _ _ _ x5 _ (fun m d => x3 (ix2 m d)) (fun m d => x4 (ix2 m d)) r l ?_ ?_ ?_ ?_
  · intro d
    rw [head_apply]
    simp only [← hq]
    pointwise []
    have e0 : ∀ e : Fin 256, headCol 0 e = ⟨e.val, by omega⟩ := fun e => Fin.ext (by show 0 * 256 + e.val = e.val; omega)
    simp only [e0]
  · intro d
    rw [head_apply]
    simp only [← hq]
    pointwise []
    rfl
  · intro d
    rw [head_apply]
    simp only [← hq]
    pointwise []
    rfl
  · intro d
    rw [head_apply]
    simp only [← hq]
    pointwise []
    rfl

end Cert.Xattn
-- ==== Proof.Xattn.Ref.lean ====
module

public import proofs.«01_k».proof.Proof.Gen.ReferenceIdeal.Read
public import Idealize.ShloMosaic.Lib.Pointwise
public import proofs.«01_k».proof.Proof.Spec

@[expose] public section

set_option maxRecDepth 16384

noncomputable section

namespace Cert.Xattn

open Cert.ReferenceIdeal Cert.ReferenceIdeal.Gen Cert.ReferenceIdeal.Read Idealize.ShloMosaic Idealize.SL.Sem Cert.Spec

/-- The reference's query projection at a token and a column. -/
theorem ref_q (x : Vec Ideal S16384x1024 .f32) (g : Vec Ideal S1024 .f32) (w : Vec Ideal S1024x1024 .f32) (r : Fin 16384) (d : Fin 1024) :
    val_main_v13 (F := Ideal) x g w (ix2 r d)
      = rowMul (fun j => unitRow (Ideal.ofBits .f32 0x44800000#32) (fun l => x (ix2 r l)) j * g (ix1 j)) (fun j l => w (ix2 j l)) d := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The reference's scaled scores. -/
theorem ref_score (x : Vec Ideal S16384x1024 .f32) (g : Vec Ideal S1024 .f32) (w : Vec Ideal S1024x1024 .f32) (k : Vec Ideal S256x1024 .bf16) (h : Fin 4) (r : Fin 16384) (m : Fin 256) :
    val_main_v21 (F := Ideal) x g w k (ix3 h r m)
      = score (fun e => val_main_v13 (F := Ideal) x g w (ix2 r (headCol h e))) (fun m e => k (ix2 m (headCol h e))) m := by
  unfold val_main_v21 val_main_v20 val_main_v19 val_main_v16 val_main_v15 val_main_v14 val_main_cst_2
  generalize val_main_v13 (F := Ideal) x g w = q
  pointwise []
  rfl

/-- The reference's largest score of a row. -/
theorem rowMax (q : FVec Ideal S4x16384x256 .f32) (h : Fin 4) (r : Fin 16384) :
    Host.reduce FloatOps.maximumf q (val_main_cst_3 (F := Ideal)) reducesTo_S4x16384x256_S4x16384_d2 h_S_ (ix2 h r)
      = Finset.univ.fold max (Ideal.ofBits .f32 0xFF800000#32) fun m => q (ix3 h r m) := by
  refine (hostMax_last q _ _ _ h r).trans ?_
  rw [val_main_cst_3_apply]
  rfl

/-- The reference's unnormalised weights: the maximum taken with −∞ once more is the maximum. -/
theorem ref_weight (x : Vec Ideal S16384x1024 .f32) (g : Vec Ideal S1024 .f32) (w : Vec Ideal S1024x1024 .f32) (k : Vec Ideal S256x1024 .bf16) (h : Fin 4) (r : Fin 16384) (m : Fin 256) :
    val_main_v28 (F := Ideal) x g w k (ix3 h r m) = weight (fun m => val_main_v21 (F := Ideal) x g w k (ix3 h r m)) m := by
  have hm : val_main_v22 (F := Ideal) x g w k (ix2 h r)
      = Finset.univ.fold max (Ideal.ofBits .f32 0xFF800000#32) fun m => val_main_v21 (F := Ideal) x g w k (ix3 h r m) := by
    unfold val_main_v22
    generalize val_main_v21 (F := Ideal) x g w k = q
    exact rowMax q h r
  have e : idx_main_v25 (idx_main_v26 (ix3 h r m)) = ix2 h r := funext fun a => by fin_cases a <;> rfl
  rw [val_main_v28_apply, val_main_v27_apply, val_main_v26_apply, val_main_v25_apply, val_main_v24_apply, val_main_v23_apply,
    val_main_cst_4_apply, e, hm]
  generalize val_main_v21 (F := Ideal) x g w k = q
  refine Eq.trans ?_ (congrArg (fun y => Ideal.exp (q (ix3 h r m) - y)) (max_fold_self _ _ _))
  rfl

/-- The reference's attention output before the output projection. -/
theorem ref_heads (x : Vec Ideal S16384x1024 .f32) (g : Vec Ideal S1024 .f32) (w : Vec Ideal S1024x1024 .f32) (k v : Vec Ideal S256x1024 .bf16) (r : Fin 16384) (j : Fin 1024) :
    val_main_v35 (F := Ideal) x g w k v (ix2 r j)
      = heads (fun d => val_main_v13 (F := Ideal) x g w (ix2 r d)) (fun m d => k (ix2 m d)) (fun m d => v (ix2 m d)) j := by
  have hw := fun h m => (ref_weight x g w k h r m).trans (congrArg (weight · m) (funext fun m => ref_score x g w k h r m))
  unfold val_main_v35 val_main_v34 val_main_v33 val_main_v32 val_main_v31 val_main_v30 val_main_v29 val_main_v18 val_main_v17 val_main_cst_5
  revert hw
  generalize val_main_v28 (F := Ideal) x g w k = p
  generalize val_main_v13 (F := Ideal) x g w = q
  intro hw
  pointwise []
  simp only [hw]
  unfold heads attend
  refine Finset.sum_congr rfl fun m _ => ?_
  beta_reduce
  rw [mul_comm, headCol_div_mod]

/-- The reference's result at a token and a column. -/
theorem ref_out (x : Vec Ideal S16384x1024 .f32) (g : Vec Ideal S1024 .f32) (w : Vec Ideal S1024x1024 .f32) (k v : Vec Ideal S256x1024 .bf16) (wo : Vec Ideal S1024x1024 .f32) (r : Fin 16384) (l : Fin 1024) :
    val_main_v37 (F := Ideal) x g w k v wo (ix2 r l)
      = crossRow (fun l => x (ix2 r l)) (fun j => g (ix1 j)) (fun j l => w (ix2 j l)) (fun m d => k (ix2 m d)) (fun m d => v (ix2 m d))
          (fun j l => wo (ix2 j l)) l := by
  have hh := fun j => ref_heads x g w k v r j
  simp only [ref_q] at hh
  unfold val_main_v37 val_main_v36
  revert hh
  generalize val_main_v35 (F := Ideal) x g w k v = p
  intro hh
  pointwise []
  simp only [hh]
  rfl

end Cert.Xattn
-- ==== Proof.Xattn.Value.lean ====
/- The cross-attention claim: the kernel's blocks tile the result, and each element is the reference's. -/
module

public import proofs.«01_k».proof.Defs
public import proofs.«01_k».proof.Proof.Xattn.Body
public import proofs.«01_k».proof.Proof.Xattn.Ref
public import Idealize.ShloMosaic.Lib.Quiescent

@[expose] public section

set_option maxRecDepth 16384

noncomputable section

namespace Cert.Xattn

open Idealize.ShloMosaic Idealize.ShloMosaic.TcCoe Idealize.SL.Sem
open Idealize.ShloMosaic.Pipeline (Dat)
open Cert.KernelIdeal Cert.KernelIdeal.Gen Cert.Spec

variable (m : (ℓ : Loc nD τ sig) → Buf (Elt Ideal) ℓ) (ρ : Dev nD → PrngReg)

/-- Cross-attention over whole arrays. -/
def cross (x : Vec Ideal S16384x1024 .f32) (g : Vec Ideal S1024 .f32) (w : Vec Ideal S1024x1024 .f32) (k v : Vec Ideal S256x1024 .bf16)
    (wo : Vec Ideal S1024x1024 .f32) : Vec Ideal S16384x1024 .f32 := fun i =>
  crossRow (fun l => x (ix2 (i 0) l)) (fun j => g (ix1 j)) (fun j l => w (ix2 j l)) (fun m d => k (ix2 m d)) (fun m d => v (ix2 m d))
    (fun j l => wo (ix2 j l)) (i 1)

/-- Every window's block index at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The result array of the kernel's run. -/
abbrev out (c : Dev nD) : Vec Ideal S16384x1024 .f32 :=
  cross (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A grid point's block of the result is the cross-attention of the whole arrays at the place the block sits. -/
theorem point (c : Dev nD) (t : Fin cfg0.N) (y : S1024x1024.Idx) :
    out0_6 (iblk m c 0 t) (iblk m c 1 t) (iblk m c 2 t) (iblk m c 3 t) (iblk m c 4 t) (iblk m c 5 t) y
      = out m c (((cfg0.win 6).blk t).view.emb y) := by
  idx_vars y
  refine (block_apply _ _ _ _ _ _ _ _).trans ?_
  have e0 : (fun l => iblk m c 0 t (ix2 y0 l)) = fun l => m ((c : Thread nD τ).loc main_arg0) (ix2 ((((cfg0.win 6).blk t).view.emb (ix2 y0 y1)) 0) l) :=
    funext fun l => by blk_point [iblk, V, idx t]
  have e1 : (fun j => iblk m c 1 t (ix2 0 j)) = fun j => m ((c : Thread nD τ).loc main_arg1) (ix1 j) :=
    funext fun j => by blk_point [iblk, V, idx t]
  have e2 : (fun j l => iblk m c 2 t (ix2 j l)) = fun j l => m ((c : Thread nD τ).loc main_arg2) (ix2 j l) :=
    funext fun j => funext fun l => by blk_point [iblk, V, idx t]
  have e3 : (fun j l => iblk m c 3 t (ix2 j l)) = fun j l => m ((c : Thread nD τ).loc main_arg3) (ix2 j l) :=
    funext fun j => funext fun l => by blk_point [iblk, V, idx t]
  have e4 : (fun j l => iblk m c 4 t (ix2 j l)) = fun j l => m ((c : Thread nD τ).loc main_arg4) (ix2 j l) :=
    funext fun j => funext fun l => by blk_point [iblk, V, idx t]
  have e5 : (fun j l => iblk m c 5 t (ix2 j l)) = fun j l => m ((c : Thread nD τ).loc main_arg5) (ix2 j l) :=
    funext fun j => funext fun l => by blk_point [iblk, V, idx t]
  have e6 : (((cfg0.win 6).blk t).view.emb (ix2 y0 y1)) 1 = y1 :=
    Fin.ext (by blk_simp [idx t];)
  rw [e0, e1, e2, e3, e4, e5]
  unfold out cross
  rw [e6]

/-- The result array after the run. -/
theorem final (c : Dev nD) : (dats m 0 c).arrAt 6 cfg0.N = out m c := by
  refine (dats m 0 c).arrAt_eq_of_covers 6 _ (by decide +kernel) fun t _ y => ?_
  blk_simp
  rw [after0_6]
  exact point m c t y

/-- The kernel's run: the result array at the cross-attention of the arguments, the arguments unchanged. -/
theorem runK : θ_run defs (onTc (τ := τ) (main (F := Ideal))) ⟨m, fun _ => 0, ρ⟩ fun r => ∀ c : Dev nD,
      r.2.mem ((c : Thread nD τ).loc main_v3) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Cert.KernelIdeal.Value.run_blocks m ρ)

/-- The reference's last stage over whole arrays is the cross-attention. -/
theorem ref_cross (x : Vec Ideal S16384x1024 .f32) (g : Vec Ideal S1024 .f32) (w : Vec Ideal S1024x1024 .f32)
    (k v : Vec Ideal S256x1024 .bf16) (wo : Vec Ideal S1024x1024 .f32) :
    Cert.ReferenceIdeal.Read.val_main_v37 (F := Ideal) x g w k v wo = cross x g w k v wo := by
  funext i
  idx_vars i
  exact ref_out x g w k v wo _ _

/-- The reference keeps its arguments and leaves every counter at zero. -/
theorem frameR : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Kernel and reference end with the same array on the extended reals, from equal arguments. -/
theorem algebraic : Cert.algebraic_KernelIdeal_ReferenceIdeal (hKernelIdeal := Cert.KernelIdeal.Gen.facts)
    (hReferenceIdeal := Cert.ReferenceIdeal.Gen.facts) := fun m ρ m' ρ' _ hag =>
  ⟨fun c => out m c, runK m ρ, (θ_run _ _ _).mono (fun _ h c => ⟨(h c).1.trans (by
      rw [Cert.ReferenceIdeal.Read.val_main_v37_eq, ref_cross, (hag c).1, (hag c).2.1, (hag c).2.2.1, (hag c).2.2.2.1, (hag c).2.2.2.2.1,
        (hag c).2.2.2.2.2]), (h c).2⟩)
    (Cert.ReferenceIdeal.Value.run (F := Ideal) m' ρ')⟩

end Cert.Xattn
-- ==== Proof.Memkv.Value.lean ====
/- The memory's keys and values: both programs compute a normalised row times each projection. -/
module

public import proofs.«01_k».proof.Defs
public import proofs.«01_k».proof.Proof.Spec
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Memkv

open Idealize.ShloMosaic Idealize.ShloMosaic.TcCoe Idealize.SL.Sem
open Idealize.ShloMosaic.Pipeline (Dat)
open Cert.Kernel2Ideal Cert.Kernel2Ideal.Gen Cert.Spec

variable (m : (ℓ : Loc nD τ sig) → Buf (Elt Ideal) ℓ) (ρ : Dev nD → PrngReg)

/-- The zero offset, written out. -/
theorem hz : (![0, 0] : Fin 2 → Nat) = fun _ => 0 := funext fun a => by fin_cases a <;> rfl

/-- The memory's rows normalised, scaled and projected. -/
def project (x : Vec Ideal S256x1024 .f32) (g : Vec Ideal S1024 .f32) (w : Vec Ideal S1024x1024 .f32) : Vec Ideal S256x1024 .bf16 := fun i =>
  normMul (Ideal.ofBits .f32 0x44800000#32) (fun l => x (ix2 (i 0) l)) (fun j => g (ix1 j)) (fun j l => w (ix2 j l)) (i 1)

/-- The kernel's key store at an element. -/
theorem keys_apply (x : Vec Ideal S256x1024 .f32) (g : Vec Ideal S1x1024 .f32) (w w' : Vec Ideal S1024x1024 .bf16) (r : Fin 256) (l : Fin 1024) :
    out0_4 (F := Ideal) x g w w' (ix2 r l)
      = normMul (Ideal.ofBits .f32 0x44800000#32) (fun l => x (ix2 r l)) (fun j => g (ix2 0 j)) (fun j l => w (ix2 j l)) l := by
  unfold out0_4
  rw [View.canon_unit_zero hz, View.ld_unit_zero hz, View.ld_unit_zero hz, View.ld_unit_zero hz]
  unfold normMul rowMul unitRow
  pointwise [k0_pay2, k0_pay1]

/-- The kernel's value store at an element. -/
theorem vals_apply (x : Vec Ideal S256x1024 .f32) (g : Vec Ideal S1x1024 .f32) (w w' : Vec Ideal S1024x1024 .bf16) (r : Fin 256) (l : Fin 1024) :
    out0_5 (F := Ideal) x g w w' (ix2 r l)
      = normMul (Ideal.ofBits .f32 0x44800000#32) (fun l => x (ix2 r l)) (fun j => g (ix2 0 j)) (fun j l => w' (ix2 j l)) l := by
  unfold out0_5
  rw [View.canon_unit_zero hz, View.ld_unit_zero hz, View.ld_unit_zero hz, View.ld_unit_zero hz]
  unfold normMul rowMul unitRow
  pointwise [k0_pay3, k0_pay1]

/-- Every window's block index at the one grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The two result arrays of the kernel's run. -/
abbrev outK (c : Dev nD) : Vec Ideal S256x1024 .bf16 :=
  project (m ((c : Thread nD τ).loc main_arg0)) (m ((c : Thread nD τ).loc main_arg1)) (m ((c : Thread nD τ).loc main_arg2))
abbrev outV (c : Dev nD) : Vec Ideal S256x1024 .bf16 :=
  project (m ((c : Thread nD τ).loc main_arg0)) (m ((c : Thread nD τ).loc main_arg1)) (m ((c : Thread nD τ).loc main_arg3))

section blocks
variable (c : Dev nD) (t : Fin cfg0.N)

/-- The memory block is the whole memory. -/
theorem x_block : (fun (r : Fin 256) (l : Fin 1024) => iblk m c 0 t (ix2 r l)) = fun r l => m ((c : Thread nD τ).loc main_arg0) (ix2 r l) :=
  funext fun r => funext fun l => by blk_point [iblk, V, idx t]
/-- The gain block is the whole gain. -/
theorem g_block : (fun j : Fin 1024 => iblk m c 1 t (ix2 0 j)) = fun j => m ((c : Thread nD τ).loc main_arg1) (ix1 j) :=
  funext fun j => by blk_point [iblk, V, idx t]
/-- The key weight's block is the whole weight. -/
theorem wk_block : (fun (j l : Fin 1024) => iblk m c 2 t (ix2 j l)) = fun j l => m ((c : Thread nD τ).loc main_arg2) (ix2 j l) :=
  funext fun j => funext fun l => by blk_point [iblk, V, idx t]
/-- The value weight's block is the whole weight. -/
theorem wv_block : (fun (j l : Fin 1024) => iblk m c 3 t (ix2 j l)) = fun j l => m ((c : Thread nD τ).loc main_arg3) (ix2 j l) :=
  funext fun j => funext fun l => by blk_point [iblk, V, idx t]

end blocks

/-- The keys' array after the run. -/
theorem finalK (c : Dev nD) : (dats m 0 c).arrAt 4 cfg0.N = outK m c := by
  refine (dats m 0 c).arrAt_eq_of_covers 4 _ (by decide +kernel) fun t _ y => ?_
  blk_simp
  rw [after0_4]
  idx_vars y
  refine (keys_apply _ _ _ _ _ _).trans ?_
  have e : (((cfg0.win 4).blk t).view.emb (ix2 y0 y1)) = ix2 y0 y1 := by blk_ext [idx t]
  unfold outK project
  rw [e, wk_block, g_block, show (fun l : Fin 1024 => iblk m c 0 t (ix2 y0 l)) = fun l => m ((c : Thread nD τ).loc main_arg0) (ix2 y0 l) from
    congrFun (x_block m c t) y0]
  rfl

/-- The values' array after the run. -/
theorem finalV (c : Dev nD) : (dats m 0 c).arrAt 5 cfg0.N = outV m c := by
  refine (dats m 0 c).arrAt_eq_of_covers 5 _ (by decide +kernel) fun t _ y => ?_
  blk_simp
  rw [after0_5]
  idx_vars y
  refine (vals_apply _ _ _ _ _ _).trans ?_
  have e : (((cfg0.win 5).blk t).view.emb (ix2 y0 y1)) = ix2 y0 y1 := by blk_ext [idx t]
  unfold outV project
  rw [e, wv_block, g_block, show (fun l : Fin 1024 => iblk m c 0 t (ix2 y0 l)) = fun l => m ((c : Thread nD τ).loc main_arg0) (ix2 y0 l) from
    congrFun (x_block m c t) y0]
  rfl

/-- The kernel's run: keys and values, the arguments unchanged. -/
theorem runK : θ_run defs (onTc (τ := τ) (main (F := Ideal))) ⟨m, fun _ => 0, ρ⟩ fun r => ∀ c : Dev nD,
      r.2.mem ((c : Thread nD τ).loc main_v3_0) = outK m c
      ∧ r.2.mem ((c : Thread nD τ).loc main_v3_1) = outV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (finalK m c), (h c).2.1.trans (finalV m c), (h c).2.2⟩) (Cert.Kernel2Ideal.Value.run_blocks m ρ)

/-- The reference's keys. -/
theorem ref_keys (x : Vec Ideal S256x1024 .f32) (g : Vec Ideal S1024 .f32) (w : Vec Ideal S1024x1024 .f32) :
    Cert.Reference2Ideal.Read.val_main_v14 (F := Ideal) x g w = project x g w := by
  funext i
  idx_vars i
  unfold project normMul rowMul unitRow
  open Cert.Reference2Ideal.Read in
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]

/-- The reference's values. -/
theorem ref_vals (x : Vec Ideal S256x1024 .f32) (g : Vec Ideal S1024 .f32) (w : Vec Ideal S1024x1024 .f32) :
    Cert.Reference2Ideal.Read.val_main_v16 (F := Ideal) x g w = project x g w := by
  funext i
  idx_vars i
  unfold project normMul rowMul unitRow
  open Cert.Reference2Ideal.Read in
  pointwise [val_main_v16, val_main_v15, val_main_v12, val_main_v11, val_main_v10, val_main_v9, val_main_v8, val_main_v7,
    val_main_v6, val_main_v5, val_main_v4, val_main_v3, val_main_v2, val_main_v1, val_main_v0, val_main_cst, val_main_cst_0, val_main_cst_1]

/-- The reference keeps its arguments and leaves every counter at zero. -/
theorem frameR : Cert.quiescent_Reference2Ideal (hReference2Ideal := Cert.Reference2Ideal.Gen.facts) := fun m ρ _ =>
  (θ_run Cert.Reference2Ideal.defs _ _).mono (fun r h => ⟨fun c => (h c).2.2, Idealize.ShloMosaic.sem_eq_zero_of_no_sems (by decide) r.2⟩)
    (Cert.Reference2Ideal.Value.run (F := Ideal) m ρ)

/-- Kernel and reference end with the same keys and values on the extended reals, from equal arguments. -/
theorem algebraic : Cert.algebraic_Kernel2Ideal_Reference2Ideal (hKernel2Ideal := Cert.Kernel2Ideal.Gen.facts)
    (hReference2Ideal := Cert.Reference2Ideal.Gen.facts) := fun m ρ m' ρ' _ hag =>
  ⟨fun c => outK m c, fun c => outV m c, runK m ρ, (θ_run _ _ _).mono (fun _ h c => ⟨(h c).1.trans (by
      rw [Cert.Reference2Ideal.Read.val_main_v14_eq, ref_keys, (hag c).1, (hag c).2.1, (hag c).2.2.1]), (h c).2.1.trans (by
      rw [Cert.Reference2Ideal.Read.val_main_v16_eq, ref_vals, (hag c).1, (hag c).2.1, (hag c).2.2.2]), (h c).2.2⟩)
    (Cert.Reference2Ideal.Value.run (F := Ideal) m' ρ')⟩

end Cert.Memkv
-- ==== Proof.Proj.Run.lean ====
/- The input projection's run: what each window's buffer may hold point by point, and what the two results hold at the end. -/
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Pipeline.ValueKit
public import Idealize.ShloMosaic.Lib.Pipeline.ArrRel
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel3Ideal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offset, written out. -/
theorem hz : (![0, 0] : Fin 2 → Nat) = fun _ => 0 := funext fun a => by fin_cases a <;> rfl

/-! ## When the two conditionals are taken -/

/-- The first conditional's condition: the column block is the row's first. -/
abbrev first (i : grid0.Coords) : Prop := Scalar.cmpi .ne (Scalar.extui (Scalar.cmpi .eq (BitVec.ofNat 32 (i 1).val) 0#32)) 0#32 = 1#1

/-- The first conditional runs at the points that are multiples of nine. -/
theorem first_iff (t : Fin cfg0.N) : first (grid0.coords t) ↔ t.val % 9 = 0 := by
  have ht : t.val < 72 := Nat.lt_of_lt_of_eq t.isLt N_0
  have e1 : (grid0.coords t 1).val = t.val / 1 % 9 := Pipeline.Grid.coords_val t 1 (by decide) rfl
  simp only [first, e1]
  word_cmp

/-- The second conditional runs at the points that leave three modulo nine. -/
theorem forget_iff (t : Fin cfg0.N) : k0_cond2 (grid0.coords t) = 1#1 ↔ t.val % 9 = 3 := by
  have ht : t.val < 72 := Nat.lt_of_lt_of_eq t.isLt N_0
  have e1 : (grid0.coords t 1).val = t.val / 1 % 9 := Pipeline.Grid.coords_val t 1 (by decide) rfl
  simp only [k0_cond2, e1]
  word_cmp

/-! ## The body, case by case -/

section body

variable (c : Dev nD) (i : grid0.Coords)
  (arg2 : Memref sig .tc .vmem S2048x1024 .f32) (harg2 : arg2.IsWhole) (arg3 : Memref sig .tc .vmem S1x1024 .f32) (harg3 : arg3.IsWhole)
  (arg4 : Memref sig .tc .vmem S1024x1024 .bf16) (harg4 : arg4.IsWhole) (arg5 : Memref sig .tc .vmem S2048x1024 .bf16) (harg5 : arg5.IsWhole)
  (arg6 : Memref sig .tc .vmem S2048x512 .f32) (harg6 : arg6.IsWhole) (arg7 : Memref sig .tc .vmem S2048x1024 .bf16) (harg7 : arg7.IsWhole)
  (x0 : Vec F S2048x1024 .f32) (x1 : Vec F S1x1024 .f32) (x2 : Vec F S1024x1024 .bf16) (y3 h : Vec F S2048x1024 .bf16) (y4 : Vec F S2048x512 .f32)

/-- The windows' buffers and the scratch, each at given contents. -/
abbrev held (o : Vec F S2048x1024 .bf16) (f : Vec F S2048x512 .f32) (s : Vec F S2048x1024 .bf16) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare o ∗ owns (c : Thread nD τ) arg6 fullShare f ∗ owns (c : Thread nD τ) arg7 fullShare s)

/-- A load of a whole buffer reads its contents. -/
theorem load_whole {S : Shape} {e : EltTy} {sp : Space} {r : Memref sig .tc sp S e} (hr : r.IsWhole) {off : Fin S.rank → Nat} (h : off = fun _ => 0)
    (inb : ∀ a, off a + S.size a ≤ S.size a) (X : S.Idx → Elt F e) :
    View.readAt (Elt F) r.view (Rect.unit off S.size inb).toLoadRect (hr.unread X) = X := by
  rw [View.readAt_eq_ld, hr.read_unread, View.ld_unit_zero h]

/-- After a store to a whole buffer, the buffer holds what was stored. -/
theorem store_whole {S : Shape} {e : EltTy} {sp : Space} (v : View sig .tc sp S e) {off : Fin S.rank → Nat} (h : off = fun _ => 0)
    (inb : ∀ a, off a + S.size a ≤ S.size a) (f : v.ty.Contents (Elt F)) (w : S.Idx → Elt F e) :
    View.read (Elt F) v (v.writes (Elt F) f [⟨Rect.unit off S.size inb, w⟩]) = w := by
  rw [View.read_writes_eq_canon _ _ _ fun y => ⟨_, List.mem_singleton_self _, View.mem_set_unit_zero h inb y⟩, View.canon_unit_zero h]

set_option maxHeartbeats 1000000 in
/-- A row's first column block: the normalised rows are put in the scratch and multiplied. -/
theorem body_first (h0 : first i) (h1 : ¬ k0_cond2 i = 1#1) (E : Set ℕ) (K : PUnit → sProp 𝕄) :
    iprop(held c arg2 arg3 arg4 arg5 arg6 arg7 x0 x1 x2 y3 y4 h
      ∗ (held c arg2 arg3 arg4 arg5 arg6 arg7 x0 x1 x2 (k0_pay3 (k0_pay1 x0 x1) x2) y4 (k0_pay1 x0 x1) -∗ K ⟨⟩))
      ⊢ wp frame (wpE (defs₀ (F := F)) Variants.none c none) E
          (cc0_in_proj i arg2 harg2 arg3 harg3 arg4 harg4 arg5 harg5 arg6 harg6 arg7 harg7) K := by
  simp only [cc0_in_proj_eq_skeleton]; unfold cc0_in_proj_skel
  unfold held owns
  iintro ⟨⟨⟨%f0, %hf0, H0⟩, ⟨%f1, %hf1, H1⟩, ⟨%f2, %hf2, H2⟩, ⟨%f3, %hf3, H3⟩, ⟨%f4, %hf4, H4⟩, ⟨%fs, %hfs, HS⟩⟩, Hk⟩
  obtain rfl := harg2.eq_unread hf0; obtain rfl := harg3.eq_unread hf1; obtain rfl := harg4.eq_unread hf2
  sl_exec (disch := first | sl_exact h0 | sl_exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (store_whole _ hz _ _ _).trans ?_
    unfold body_first.sl.v3 body_first.sl.HS_1
    rw [View.readCov_unit_zero _ hz, load_whole harg2 hz, load_whole harg3 hz, load_whole harg4 hz]
  isplitl [H4]
  · iexists _; isplitr; swap; · iexact H4
    ipureintro
    exact hf4
  iexists _; isplitr; swap; · iexact HS
  ipureintro
  unfold body_first.sl.HS_1
  refine (store_whole _ hz _ _ _).trans ?_
  rw [load_whole harg2 hz, load_whole harg3 hz]

set_option maxHeartbeats 1000000 in
/-- A later column block, not the fourth: the rows in the scratch are multiplied. -/
theorem body_next (h0 : ¬ first i) (h1 : ¬ k0_cond2 i = 1#1) (E : Set ℕ) (K : PUnit → sProp 𝕄) :
    iprop(held c arg2 arg3 arg4 arg5 arg6 arg7 x0 x1 x2 y3 y4 h
      ∗ (held c arg2 arg3 arg4 arg5 arg6 arg7 x0 x1 x2 (k0_pay3 h x2) y4 h -∗ K ⟨⟩))
      ⊢ wp frame (wpE (defs₀ (F := F)) Variants.none c none) E
          (cc0_in_proj i arg2 harg2 arg3 harg3 arg4 harg4 arg5 harg5 arg6 harg6 arg7 harg7) K := by
  simp only [cc0_in_proj_eq_skeleton]; unfold cc0_in_proj_skel
  unfold held owns
  iintro ⟨⟨⟨%f0, %hf0, H0⟩, ⟨%f1, %hf1, H1⟩, ⟨%f2, %hf2, H2⟩, ⟨%f3, %hf3, H3⟩, ⟨%f4, %hf4, H4⟩, ⟨%fs, %hfs, HS⟩⟩, Hk⟩
  obtain rfl := harg2.eq_unread hf0; obtain rfl := harg3.eq_unread hf1; obtain rfl := harg4.eq_unread hf2
  obtain rfl := harg7.eq_unread hfs
  sl_exec (disch := first | sl_exact h0 | sl_exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (store_whole _ hz _ _ _).trans ?_
    rw [load_whole harg7 hz, load_whole harg4 hz]
  isplitl [H4]
  · iexists _; isplitr; swap; · iexact H4
    ipureintro
    exact hf4
  iexists _; isplitr; swap; · iexact HS
  ipureintro
  exact harg7.read_unread _

set_option maxHeartbeats 1000000 in
/-- The fourth column block: half of the product is stored a second time, unrounded. -/
theorem body_forget (h0 : ¬ first i) (h1 : k0_cond2 i = 1#1) (E : Set ℕ) (K : PUnit → sProp 𝕄) :
    iprop(held c arg2 arg3 arg4 arg5 arg6 arg7 x0 x1 x2 y3 y4 h
      ∗ (held c arg2 arg3 arg4 arg5 arg6 arg7 x0 x1 x2 (k0_pay3 h x2) (k0_pay4 h x2) h -∗ K ⟨⟩))
      ⊢ wp frame (wpE (defs₀ (F := F)) Variants.none c none) E
          (cc0_in_proj i arg2 harg2 arg3 harg3 arg4 harg4 arg5 harg5 arg6 harg6 arg7 harg7) K := by
  simp only [cc0_in_proj_eq_skeleton]; unfold cc0_in_proj_skel
  unfold held owns
  iintro ⟨⟨⟨%f0, %hf0, H0⟩, ⟨%f1, %hf1, H1⟩, ⟨%f2, %hf2, H2⟩, ⟨%f3, %hf3, H3⟩, ⟨%f4, %hf4, H4⟩, ⟨%fs, %hfs, HS⟩⟩, Hk⟩
  obtain rfl := harg2.eq_unread hf0; obtain rfl := harg3.eq_unread hf1; obtain rfl := harg4.eq_unread hf2
  obtain rfl := harg7.eq_unread hfs
  sl_exec (disch := first | sl_exact h0 | sl_exact h1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    refine (store_whole _ hz _ _ _).trans ?_
    rw [load_whole harg7 hz, load_whole harg4 hz]
  isplitl [H4]
  · iexists _; isplitr; swap; · iexact H4
    ipureintro
    refine (store_whole _ hz _ _ _).trans ?_
    rw [load_whole harg7 hz, load_whole harg4 hz]
  iexists _; isplitr; swap; · iexact HS
  ipureintro
  exact harg7.read_unread _

end body

/-! ## The proof data -/

/-- The scratch. -/
abbrev scM : Memref sig .tc .vmem S2048x1024 .bf16 := Memref.whole cc0_scratch0

/-- The call owns its scratch, at some contents, and its generator. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The normalised rows that point `t` multiplies. -/
def hid (c : Dev nD) (t : Fin cfg0.N) : Vec F S2048x1024 .bf16 := k0_pay1 (iblk m c 0 t) (iblk m c 1 t)

/-- The product's block at point `t`, rounded. -/
def prod (c : Dev nD) (t : Fin cfg0.N) : Vec F S2048x1024 .bf16 := k0_pay3 (hid m c t) (iblk m c 2 t)

/-- The half of the product's block that is stored unrounded. -/
def half (c : Dev nD) (t : Fin cfg0.N) : Vec F S2048x512 .f32 := k0_pay4 (hid m c t) (iblk m c 2 t)

/-- The relations: the inputs' buffers keep their blocks, the product's buffer holds the block, and the second result's is as it was
    except at a row's fourth column block; between a row's points the scratch holds the row's normalised block. -/
def rdat (c : Dev nD) : RDat τ (Elt F) Unit ℕ (UR sig nD τ) ℕ cfg0 c where
  A w := V m c (Pipeline.arrRef spec0 w)
  after w t := match w with
    | ⟨0, _⟩ => fun _ X => X = iblk m c 0 t
    | ⟨1, _⟩ => fun _ X => X = iblk m c 1 t
    | ⟨2, _⟩ => fun _ X => X = iblk m c 2 t
    | ⟨3, _⟩ => fun _ X => X = prod m c t
    | ⟨4, _⟩ => fun Y X => if t.val % 9 = 3 then X = half m c t else X = Y
  Φ t := iprop(iprop((∃ d, iprop(⌜∀ u : Fin cfg0.N, t.val = u.val + 1 → t.val % 9 ≠ 0 → d = hid m c u⌝ ∗ owns (c : Thread nD τ) scM fullShare d))) ∗ (∃ r, prngReg c r))
  q _ := fullShare
  owed _ := 0

/-- What the relations say of the input rows' buffer. -/
theorem rdat_after0 (c : Dev nD) (t : Fin cfg0.N) (Y X) : (rdat m c).after 0 t Y X = (X = iblk m c 0 t) := by dsimp only [rdat]
/-- What the relations say of the gain's buffer. -/
theorem rdat_after1 (c : Dev nD) (t : Fin cfg0.N) (Y X) : (rdat m c).after 1 t Y X = (X = iblk m c 1 t) := by dsimp only [rdat]
/-- What the relations say of the weight's buffer. -/
theorem rdat_after2 (c : Dev nD) (t : Fin cfg0.N) (Y X) : (rdat m c).after 2 t Y X = (X = iblk m c 2 t) := by dsimp only [rdat]
/-- What the relations say of the product's buffer. -/
theorem rdat_after3 (c : Dev nD) (t : Fin cfg0.N) (Y X) : (rdat m c).after 3 t Y X = (X = prod m c t) := by dsimp only [rdat]
/-- What the relations say of the second result's buffer. -/
theorem rdat_after4 (c : Dev nD) (t : Fin cfg0.N) (Y X) : (rdat m c).after 4 t Y X = (if t.val % 9 = 3 then X = half m c t else X = Y) := by dsimp only [rdat]

/-- The point before. -/
abbrev prev (t : Fin cfg0.N) : Fin cfg0.N := ⟨t.val - 1, Nat.lt_of_le_of_lt (Nat.sub_le _ _) t.isLt⟩

/-- The row block of a point is its quotient by nine. -/
theorem idx0 : ∀ t : Fin cfg0.N, win0_0.index t = ![t.val / 9, 0] := (by decide +kernel : ∀ t : Fin grid0.N, _)
/-- The gain has one block. -/
theorem idx1 : ∀ t : Fin cfg0.N, win0_1.index t = ![0, 0] := (by decide +kernel : ∀ t : Fin grid0.N, _)

/-- Within a row the input block stays. -/
theorem iblk0_congr (c : Dev nD) (t u : Fin cfg0.N) (h : t.val / 9 = u.val / 9) : iblk m c 0 t = iblk m c 0 u := by
  have e := (rdat m c).fetched_congr 0 (t := t) (t' := u) (by show win0_0.index t = win0_0.index u; rw [idx0, idx0, h]) rfl
    (Classical.arbitrary _)
  exact e

/-- The gain is the same at all points. -/
theorem iblk1_congr (c : Dev nD) (t u : Fin cfg0.N) : iblk m c 1 t = iblk m c 1 u := by
  have e := (rdat m c).fetched_congr 1 (t := t) (t' := u) (by show win0_1.index t = win0_1.index u; rw [idx1, idx1]) rfl
    (Classical.arbitrary _)
  exact e

/-- Within a row the normalised rows stay. -/
theorem hid_congr (c : Dev nD) (t u : Fin cfg0.N) (h : t.val / 9 = u.val / 9) : hid m c t = hid m c u := by
  unfold hid; rw [iblk0_congr m c t u h, iblk1_congr m c t u]

/-- The body finds the point's input rows. -/
theorem finds0 (c : Dev nD) (t : Fin cfg0.N) (Y) (h : (rdat m c).Finds 0 t Y) : Y = iblk m c 0 t := by
  by_cases hf : (cfg0.win 0).fetch t = true
  · obtain ⟨d, rfl⟩ := ((rdat m c).finds_of_fetch hf Y).mp h
    rfl
  · have h9 : ¬ t.val % 9 = 0 := fun e => hf ((fetch0_0 t).mpr e)
    rcases ((rdat m c).finds_of_pos (eq_false_of_ne_true hf) (fun e => h9 (by rw [e])) Y).mp h with hfl | ⟨Z, -, hZ⟩
    · exact absurd hfl (by rw [show (cfg0.win 0).flush (prev t) = false from rfl]; exact Bool.false_ne_true)
    · rw [rdat_after0] at hZ
      exact hZ.trans (iblk0_congr m c _ _ (by dsimp only; omega))

/-- The body finds the gain. -/
theorem finds1 (c : Dev nD) (t : Fin cfg0.N) (Y) (h : (rdat m c).Finds 1 t Y) : Y = iblk m c 1 t := by
  by_cases hf : (cfg0.win 1).fetch t = true
  · obtain ⟨d, rfl⟩ := ((rdat m c).finds_of_fetch hf Y).mp h
    rfl
  · have h9 : ¬ t.val % 72 = 0 := fun e => hf ((fetch0_1 t).mpr e)
    rcases ((rdat m c).finds_of_pos (eq_false_of_ne_true hf) (fun e => h9 (by rw [e])) Y).mp h with hfl | ⟨Z, -, hZ⟩
    · exact absurd hfl (by rw [show (cfg0.win 1).flush (prev t) = false from rfl]; exact Bool.false_ne_true)
    · rw [rdat_after1] at hZ
      exact hZ.trans (iblk1_congr m c _ _)

/-- The body finds the point's weight columns. -/
theorem finds2 (c : Dev nD) (t : Fin cfg0.N) (Y) (h : (rdat m c).Finds 2 t Y) : Y = iblk m c 2 t := by
  obtain ⟨d, rfl⟩ := ((rdat m c).finds_of_fetch (fetch0_2 t) Y).mp h
  rfl

/-- What the second result's buffer holds when it is written back: what the row's fourth point left. -/
theorem leaves4 (c : Dev nD) (u : Fin cfg0.N) (hu : u.val % 9 = 3) : ∀ (n : Nat) (t : Fin cfg0.N), t.val = u.val + n → n ≤ 5 →
    ∀ X, (rdat m c).Leaves 4 t X → X = half m c u
  | 0, t, ht, _, X, ⟨Y, _, h⟩ => by
    obtain rfl : t = u := Fin.ext ht
    rw [rdat_after4, if_pos hu] at h
    exact h
  | n + 1, t, ht, hn, X, ⟨Y, hY, h⟩ => by
    rw [rdat_after4, if_neg (by omega)] at h
    subst h
    rcases ((rdat m c).finds_of_pos rfl (by omega) X).mp hY with hfl | hL
    · exact absurd ((flush0_4 _).mp hfl) (by dsimp only; omega)
    · exact leaves4 c u hu n (prev t) (by dsimp only; omega) (by omega) X hL

/-! ## The body at a point, and the run -/

/-- The body called at a point is the printed one. -/
theorem defs₀_row (t : Fin cfg0.N) : defs₀ (F := F) .tc cfg0.body (cfg0.bodyArgs t (cfg0.slots t)) = bodyAt0 t := by
  unfold defs₀; rw [Defs.onTc_tc]

set_option maxHeartbeats 1000000 in
/-- The body keeps the relations at every point. -/
theorem body_obligation (c : Dev nD) : (rdat (F := F) m c).BodyObligation (defs₀ (F := F)) Variants.none () Set.univ := fun t Y hY => by
  rw [bigSep_W0, bigSep_W0, defs₀_row]
  simp only [rdat_after0, rdat_after1, rdat_after2, rdat_after3, rdat_after4]
  have e0 := finds0 m c t _ (hY 0)
  have e1 := finds1 m c t _ (hY 1)
  have e2 := finds2 m c t _ (hY 2)
  generalize Y 0 = Y0 at *
  generalize Y 1 = Y1 at *
  generalize Y 2 = Y2 at *
  subst e0 e1 e2
  generalize Y 3 = Y3 at *
  generalize Y 4 = Y4 at *
  have hN : t.val < 72 := Nat.lt_of_lt_of_eq t.isLt N_0
  unfold bodyAt0
  dsimp only [rdat]
  iintro ⟨⟨⟨%d, %hd, HS⟩, Hg⟩, Ho, H0, H1, H2, H3, H4⟩
  by_cases h0 : t.val % 9 = 0
  · iapply (body_first c (grid0.coords t) _ _ _ _ _ _ _ _ _ _ _ _ (iblk m c 0 t) (iblk m c 1 t) (iblk m c 2 t) Y3 d Y4 ((first_iff t).mpr h0) (fun h => by have := (forget_iff t).mp h; omega) Set.univ _)
    isplitl [H0 H1 H2 H3 H4 HS]
    · isplitl [H0]; · iexact H0
      isplitl [H1]; · iexact H1
      isplitl [H2]; · iexact H2
      isplitl [H3]; · iexact H3
      isplitl [H4]; · iexact H4
      iexact HS
    iintro ⟨H0, H1, H2, H3, H4, HS⟩
    isplitl [HS Hg]
    · isplitl [HS]
      · iexists _; isplitr; swap; · iexact HS
        ipureintro
        intro u hu _
        obtain rfl : t = u := Fin.ext (by simpa using hu)
        rfl
      iexact Hg
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; swap; · iexact H3
                    ipureintro; rfl
    iexists _; isplitr; swap; · iexact H4
    ipureintro
    rw [if_neg (by omega)]
  · have ed : d = hid m c t := (hd (prev t) (by show t.val = t.val - 1 + 1; omega) h0).trans (hid_congr m c _ _ (by dsimp only; omega))
    subst ed
    by_cases h3 : t.val % 9 = 3
    · iapply (body_forget c (grid0.coords t) _ _ _ _ _ _ _ _ _ _ _ _ (iblk m c 0 t) (iblk m c 1 t) (iblk m c 2 t) Y3 (hid m c t) Y4 (fun h => h0 ((first_iff t).mp h)) ((forget_iff t).mpr h3) Set.univ _)
      isplitl [H0 H1 H2 H3 H4 HS]
      · isplitl [H0]; · iexact H0
        isplitl [H1]; · iexact H1
        isplitl [H2]; · iexact H2
        isplitl [H3]; · iexact H3
        isplitl [H4]; · iexact H4
        iexact HS
      iintro ⟨H0, H1, H2, H3, H4, HS⟩
      isplitl [HS Hg]
      · isplitl [HS]
        · iexists _; isplitr; swap; · iexact HS
          ipureintro
          intro u hu _
          obtain rfl : t = u := Fin.ext (by simpa using hu)
          rfl
        iexact Hg
      isplitl [Ho]; · iexact Ho
      isplitl [H0]; · iexists _; isplitr; · ipureintro; rfl
                      iexact H0
      isplitl [H1]; · iexists _; isplitr; · ipureintro; rfl
                      iexact H1
      isplitl [H2]; · iexists _; isplitr; · ipureintro; rfl
                      iexact H2
      isplitl [H3]; · iexists _; isplitr; swap; · iexact H3
                      ipureintro; rfl
      iexists _; isplitr; swap; · iexact H4
      ipureintro
      rw [if_pos h3]; rfl
    · iapply (body_next c (grid0.coords t) _ _ _ _ _ _ _ _ _ _ _ _ (iblk m c 0 t) (iblk m c 1 t) (iblk m c 2 t) Y3 (hid m c t) Y4 (fun h => h0 ((first_iff t).mp h)) (fun h => h3 ((forget_iff t).mp h)) Set.univ _)
      isplitl [H0 H1 H2 H3 H4 HS]
      · isplitl [H0]; · iexact H0
        isplitl [H1]; · iexact H1
        isplitl [H2]; · iexact H2
        isplitl [H3]; · iexact H3
        isplitl [H4]; · iexact H4
        iexact HS
      iintro ⟨H0, H1, H2, H3, H4, HS⟩
      isplitl [HS Hg]
      · isplitl [HS]
        · iexists _; isplitr; swap; · iexact HS
          ipureintro
          intro u hu _
          obtain rfl : t = u := Fin.ext (by simpa using hu)
          rfl
        iexact Hg
      isplitl [Ho]; · iexact Ho
      isplitl [H0]; · iexists _; isplitr; · ipureintro; rfl
                      iexact H0
      isplitl [H1]; · iexists _; isplitr; · ipureintro; rfl
                      iexact H1
      isplitl [H2]; · iexists _; isplitr; · ipureintro; rfl
                      iexact H2
      isplitl [H3]; · iexists _; isplitr; swap; · iexact H3
                      ipureintro; rfl
      iexists _; isplitr; swap; · iexact H4
      ipureintro
      rw [if_neg h3]

/-- What the call owns at the start gives the first invariant. -/
theorem rdat_in (c : Dev nD) : (Pipeline.ΦA spec0 c : sProp 𝕄) ⊢ (rdat (F := F) m c).Φ 0 := by
  rw [PhiA_eq]
  dsimp only [rdat]
  iintro ⟨⟨%d, HS⟩, Hg⟩
  isplitl [HS]
  · iexists d; isplitr; swap; · iexact HS
    ipureintro
    intro u hu _
    exact absurd hu (by simp)
  iexact Hg

/-- The last invariant gives back what the call owns. -/
theorem rdat_out (c : Dev nD) : (rdat (F := F) m c).Φ (Fin.last cfg0.N) ⊢ (Pipeline.ΦA spec0 c : sProp 𝕄) := by
  rw [PhiA_eq]
  dsimp only [rdat]
  iintro ⟨⟨%d, -, HS⟩, Hg⟩
  isplitl [HS]
  · iexists d; iexact HS
  iexact Hg

set_option backward.isDefEq.respectTransparency.types false in
/-- The run: the arrays at what the relations allow, every counter at zero. -/
theorem run_main : θ_run defs (onTc (τ := τ) (main (F := F))) (s₀ m ρ)
    (fun r => (RDat.FramePost (cfgs 0) (rdat m) (V m)) r ∧ r.2.sem = fun _ => 0) :=
  RDat.θ_run_frame_track cfgs 0 launch0 defs₀ Variants.none (rdat m) m ρ main (body_obligation m) (fun c w => ite_self _) (fun _ _ => rfl) (V m)
    (hmain m Variants.none) (fun _ _ => rfl) (rdat_in m) (rdat_out m) (Q' := _)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(RDat.FramePost.arr_in h.1 c 0 rfl).trans (V_main_arg0 m c),
      ((h.1 c).2 main_arg1 (Pipeline.mem_restRefs_of main_arg1 (by decide) (by decide))).trans (V_main_arg1 m c),
      (RDat.FramePost.arr_in h.1 c 2 rfl).trans (V_main_arg2 m c)⟩, h.2⟩) (run_main m ρ)

end Cert.Kernel3Ideal.Proj

end
-- ==== Proof.Proj.Value.lean ====
/- The input projection: both programs compute a normalised row times the packed projection. -/
module

public import proofs.«01_k».proof.Defs
public import proofs.«01_k».proof.Proof.Spec
public import proofs.«01_k».proof.Proof.Proj.Run
public import proofs.«01_k».proof.Proof.Gen.Kernel3
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Proj

open Idealize.ShloMosaic Idealize.ShloMosaic.TcCoe Idealize.SL.Sem
open Idealize.ShloMosaic.Pipeline (Dat RDat)
open Cert.Kernel3Ideal Cert.Kernel3Ideal.Gen Cert.Kernel3Ideal.Proj Cert.Spec

variable (m : (ℓ : Loc nD τ sig) → Buf (Elt Ideal) ℓ) (ρ : Dev nD → PrngReg)

/-- The tokens' rows normalised, scaled and projected to every packed column. -/
def project (x : Vec Ideal S16384x1024 .f32) (g : Vec Ideal S1024 .f32) (w : Vec Ideal S1024x9216 .bf16) : Vec Ideal S16384x9216 .bf16 := fun i =>
  normMul (Ideal.ofBits .f32 0x44800000#32) (fun l => x (ix2 (i 0) l)) (fun j => g (ix1 j)) (fun j l => w (ix2 j l)) (i 1)

/-- The packed column that a column of the second result is. -/
def kept (l : Fin 512) : Fin 9216 := ⟨3584 + l.val, by omega⟩

/-- The columns of the projection that the second result keeps. -/
def gates (x : Vec Ideal S16384x1024 .f32) (g : Vec Ideal S1024 .f32) (w : Vec Ideal S1024x9216 .bf16) : Vec Ideal S16384x512 .f32 := fun i =>
  normMul (Ideal.ofBits .f32 0x44800000#32) (fun l => x (ix2 (i 0) l)) (fun j => g (ix1 j)) (fun j l => w (ix2 j l))
    (kept (i 1))

/-- The kernel's product at an element of its block. -/
theorem prod_apply (x : Vec Ideal S2048x1024 .f32) (g : Vec Ideal S1x1024 .f32) (w : Vec Ideal S1024x1024 .bf16) (r : Fin 2048) (l : Fin 1024) :
    k0_pay3 (F := Ideal) (k0_pay1 x g) w (ix2 r l)
      = normMul (Ideal.ofBits .f32 0x44800000#32) (fun l => x (ix2 r l)) (fun j => g (ix2 0 j)) (fun j l => w (ix2 j l)) l := by
  unfold normMul rowMul unitRow
  pointwise [k0_pay3, k0_pay2, k0_pay1]

/-- The kernel's second store at an element of its block. -/
theorem half_apply (x : Vec Ideal S2048x1024 .f32) (g : Vec Ideal S1x1024 .f32) (w : Vec Ideal S1024x1024 .bf16) (r : Fin 2048) (l : Fin 512) :
    k0_pay4 (F := Ideal) (k0_pay1 x g) w (ix2 r l)
      = normMul (Ideal.ofBits .f32 0x44800000#32) (fun l => x (ix2 r l)) (fun j => g (ix2 0 j)) (fun j l => w (ix2 j l)) ⟨512 + l.val, by omega⟩ := by
  unfold normMul rowMul unitRow
  pointwise [k0_pay4, k0_pay2, k0_pay1]

/-- Every window's block index at a grid point. -/
theorem idx : ∀ t : Fin cfg0.N, win0_0.index t = ![t.val / 9, 0] ∧ win0_1.index t = ![0, 0] ∧ win0_2.index t = ![0, t.val % 9]
    ∧ win0_3.index t = ![t.val / 9, t.val % 9] ∧ win0_4.index t = ![t.val / 9, 0] :=
  (by decide +kernel : ∀ t : Fin grid0.N, _)

/-- The two result arrays of the kernel's run. -/
abbrev outO (c : Dev nD) : Vec Ideal S16384x9216 .bf16 :=
  project (m ((c : Thread nD τ).loc main_arg0)) (m ((c : Thread nD τ).loc main_arg1)) (m ((c : Thread nD τ).loc main_arg2))
abbrev outF (c : Dev nD) : Vec Ideal S16384x512 .f32 :=
  gates (m ((c : Thread nD τ).loc main_arg0)) (m ((c : Thread nD τ).loc main_arg1)) (m ((c : Thread nD τ).loc main_arg2))

/-- The gain block is the whole gain at every point. -/
theorem g_block (c : Dev nD) (t : Fin cfg0.N) : (fun j : Fin 1024 => iblk m c 1 t (ix2 0 j)) = fun j => m ((c : Thread nD τ).loc main_arg1) (ix1 j) :=
  funext fun j => by blk_point [iblk, V, idx t]

/-- The product's block at a point is the projection there. -/
theorem prod_point (c : Dev nD) (t : Fin cfg0.N) (y : S2048x1024.Idx) :
    prod m c t y = outO m c (((cfg0.win 3).blk t).view.emb y) := by
  idx_vars y
  refine (prod_apply _ _ _ _ _).trans ?_
  have e0 : (fun l : Fin 1024 => iblk m c 0 t (ix2 y0 l)) = fun l => m ((c : Thread nD τ).loc main_arg0) (ix2 ((((cfg0.win 3).blk t).view.emb (ix2 y0 y1)) 0) l) :=
    funext fun l => by blk_point [iblk, V, idx t]
  have e2 : (fun j : Fin 1024 => iblk m c 2 t (ix2 j y1)) = fun j => m ((c : Thread nD τ).loc main_arg2) (ix2 j ((((cfg0.win 3).blk t).view.emb (ix2 y0 y1)) 1)) :=
    funext fun l => by blk_point [iblk, V, idx t]
  unfold normMul rowMul
  rw [e0, g_block]
  unfold outO project normMul rowMul
  exact Finset.sum_congr rfl fun k _ => congrArg (_ * ·) (congrFun e2 k)

/-- The second store at a row's fourth point is the kept columns there. -/
theorem half_point (c : Dev nD) (u t : Fin cfg0.N) (hu : u.val % 9 = 3) (ht : t.val / 9 = u.val / 9) (y : S2048x512.Idx) :
    half m c u y = outF m c (((cfg0.win 4).blk t).view.emb y) := by
  idx_vars y
  refine (half_apply _ _ _ _ _).trans ?_
  have e0 : (fun l : Fin 1024 => iblk m c 0 u (ix2 y0 l)) = fun l => m ((c : Thread nD τ).loc main_arg0) (ix2 ((((cfg0.win 4).blk t).view.emb (ix2 y0 y1)) 0) l) :=
    funext fun l => by blk_point [iblk, V, idx t, idx u, ht]
  have e2 : (fun j : Fin 1024 => iblk m c 2 u (ix2 j (⟨512 + y1.val, by omega⟩ : Fin 1024)))
      = fun j => m ((c : Thread nD τ).loc main_arg2) (ix2 j (kept ((((cfg0.win 4).blk t).view.emb (ix2 y0 y1)) 1))) :=
    funext fun l => by blk_point [iblk, V, idx t, idx u, hu, kept]
  unfold normMul rowMul
  rw [e0, g_block]
  unfold outF gates normMul rowMul
  exact Finset.sum_congr rfl fun k _ => congrArg (_ * ·) (congrFun e2 k)

/-- What the two result arrays hold after the run. -/
theorem finals {r : PUnit × MemSt nD τ sig (Elt Ideal)} (h : RDat.FramePost (cfgs 0) (rdat m) (V m) r) (c : Dev nD) :
    r.2.mem ((c : Thread nD τ).loc main_v1_0) = outO m c ∧ r.2.mem ((c : Thread nD τ).loc main_v1_1) = outF m c := by
  obtain ⟨after, hL, hA⟩ := RDat.FramePost.exists_exact h c
  refine ⟨(hA 3).trans ?_, (hA 4).trans ?_⟩
  · refine Dat.arrAt_eq_of_covers _ 3 _ (by decide +kernel) fun t _ y => ?_
    obtain ⟨Y, -, hX⟩ := hL 3 t (flush0_3 t)
    rw [rdat_after3] at hX
    blk_simp
    exact (congrFun hX y).trans (prod_point m c t y)
  · refine Dat.arrAt_eq_of_covers _ 4 _ (by decide +kernel) fun t hf y => ?_
    have h8 := (flush0_4 t).mp hf
    have hX := leaves4 m c ⟨t.val - 5, by omega⟩ (by dsimp only; omega) 5 t (by dsimp only; omega) le_rfl _ (hL 4 t hf)
    blk_simp
    exact (congrFun hX y).trans (half_point m c _ t (by dsimp only; omega) (by dsimp only; omega) y)

/-- The kernel's run: the two results, the arguments unchanged. -/
theorem runK : θ_run defs (onTc (τ := τ) (main (F := Ideal))) ⟨m, fun _ => 0, ρ⟩ fun r => ∀ c : Dev nD,
      r.2.mem ((c : Thread nD τ).loc main_v1_0) = outO m c
      ∧ r.2.mem ((c : Thread nD τ).loc main_v1_1) = outF m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(finals m h.1.1 c).1, (finals m h.1.1 c).2, h.2.1 c⟩)
    (Idealize.ShloMosaic.θ_run_and (run_main m ρ) (frame m ρ))

/-- The reference's product. -/
theorem ref_prod (x : Vec Ideal S16384x1024 .f32) (g : Vec Ideal S1024 .f32) (w : Vec Ideal S1024x9216 .bf16) :
    Cert.Reference3Ideal.Read.val_main_v16 (F := Ideal) x g w = project x g w := by
  funext i
  idx_vars i
  unfold project normMul rowMul unitRow
  open Cert.Reference3Ideal.Read in
  pointwise [val_main_v16, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]

/-- The reference's kept columns. -/
theorem ref_gates (x : Vec Ideal S16384x1024 .f32) (g : Vec Ideal S1024 .f32) (w : Vec Ideal S1024x9216 .bf16) :
    Cert.Reference3Ideal.Read.val_main_v15 (F := Ideal) x g w = gates x g w := by
  funext i
  idx_vars i
  unfold gates kept normMul rowMul unitRow
  open Cert.Reference3Ideal.Read in
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1]

local instance : Cert.Kernel3.Facts := Cert.Kernel3.Gen.facts

/-- The body table of the program over words is the one whose run is proved. -/
theorem defs₀_words : Cert.Kernel3.defs₀ (F := Bits) = Cert.Kernel3Ideal.defs₀ (F := Bits) := by
  unfold Cert.Kernel3.defs₀ Cert.Kernel3Ideal.defs₀
  congr 1
  funext l x
  match l, x with
  | ⟨0, _⟩, (t, s) => rfl
  | ⟨_ + 1, h⟩, _ => exact absurd h (Nat.not_lt.2 (Nat.le_add_left _ _))

/-- So are the tables with the pipeline's entries. -/
theorem defs_words : Cert.Kernel3.defs (F := Bits) = Cert.Kernel3Ideal.defs (F := Bits) :=
  congrArg (Pipeline.defs Cert.Kernel3.pcfgs) defs₀_words

/-- The kernel over words keeps its arguments and leaves every counter at zero: the run holds over any float values. -/
theorem frameWords : Cert.quiescent_Kernel3 (hKernel3 := Cert.Kernel3.Gen.facts) := fun m ρ _ => by
  have h := Cert.Kernel3Ideal.Proj.frame (F := Bits) m ρ
  rw [← defs_words] at h
  exact h

/-- The kernel over extended reals keeps its arguments and leaves every counter at zero. -/
theorem frameK : Cert.quiescent_Kernel3Ideal (hKernel3Ideal := Cert.Kernel3Ideal.Gen.facts) := fun m ρ _ => Cert.Kernel3Ideal.Proj.frame m ρ

/-- The reference keeps its arguments and leaves every counter at zero. -/
theorem frameR : Cert.quiescent_Reference3Ideal (hReference3Ideal := Cert.Reference3Ideal.Gen.facts) := fun m ρ _ =>
  (θ_run Cert.Reference3Ideal.defs _ _).mono (fun r h => ⟨fun c => (h c).2.2, Idealize.ShloMosaic.sem_eq_zero_of_no_sems (by decide) r.2⟩)
    (Cert.Reference3Ideal.Value.run (F := Ideal) m ρ)

/-- Kernel and reference end with the same two arrays on the extended reals, from equal arguments. -/
theorem algebraic : Cert.algebraic_Kernel3Ideal_Reference3Ideal (hKernel3Ideal := Cert.Kernel3Ideal.Gen.facts)
    (hReference3Ideal := Cert.Reference3Ideal.Gen.facts) := fun m ρ m' ρ' _ hag =>
  ⟨fun c => outO m c, fun c => outF m c, runK m ρ, (θ_run _ _ _).mono (fun _ h c => ⟨(h c).1.trans (by
      rw [Cert.Reference3Ideal.Read.val_main_v16_eq, ref_prod, (hag c).1, (hag c).2.1, (hag c).2.2]), (h c).2.1.trans (by
      rw [Cert.Reference3Ideal.Read.val_main_v15_eq, ref_gates, (hag c).1, (hag c).2.1, (hag c).2.2]), (h c).2.2⟩)
    (Cert.Reference3Ideal.Value.run (F := Ideal) m' ρ')⟩

end Cert.Proj

end
-- ==== Proof.Merge.Body.lean ====
/- The gated merge's block, element by element. -/
module

public import proofs.«01_k».proof.Defs
public import proofs.«01_k».proof.Proof.Spec
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Merge

open Idealize.ShloMosaic Idealize.ShloMosaic.TcCoe
open Cert.Kernel4Ideal Cert.Kernel4Ideal.Gen Cert.Spec

/-- The zero offset, written out. -/
theorem hz : (![0, 0] : Fin 2 → Nat) = fun _ => 0 := funext fun a => by fin_cases a <;> rfl

/-- The first mixer's branch: unit rows, scaled, gated and projected. -/
theorem first_apply (hg oa : Vec Ideal S1024x512 .bf16) (hn : Vec Ideal S1x512 .f32) (w : Vec Ideal S512x1024 .bf16) (r l : Fin 1024) :
    k0_pay2 hg oa hn w (ix2 r l) = rowMul (fun k => unitRow (Ideal.ofBits .f32 0x44000000#32) (fun k => oa (ix2 r k)) k * hn (ix2 0 k)
      * swish (hg (ix2 r k))) (fun k l => w (ix2 k l)) l := by
  unfold rowMul unitRow swish gate
  pointwise [k0_pay2]
  simp only [zero_sub]

/-- The second mixer's rows, unit group by group. -/
theorem groups_apply (ob : Vec Ideal S1024x512 .bf16) (r : Fin 1024) (k : Fin 512) :
    k0_pay7 (k0_pay4 ob) (k0_pay5 ob) (k0_pay6 ob) (ix2 r k) = groupUnit (fun k => ob (ix2 r k)) k := by
  unfold groupUnit unitRow
  pointwise [k0_pay7, k0_pay4, k0_pay5, k0_pay6]
  have hk : (⟨k.val / 128 * 128 + k.val % 128, by omega⟩ : Fin 512) = k := Fin.ext (by show k.val / 128 * 128 + k.val % 128 = k.val; omega)
  rw [hk]
  have grp : ∀ (b : Nat) (hb : ∀ e : Fin 128, b + e.val < 512), k.val / 128 * 128 = b → ∀ e : Fin 128,
      (⟨b + e.val, hb e⟩ : Fin 512) = ⟨k.val / 128 * 128 + e.val, by omega⟩ := fun b hb h e => Fin.ext (by show b + e.val = _ + e.val; omega)
  split
  · simp only [← grp 0 (by omega) (by omega), Nat.zero_add]
  split
  · simp only [grp 128 (by omega) (by omega), show (⟨128 + (k.val - 128), by omega⟩ : Fin 512) = k from Fin.ext (by show 128 + (k.val - 128) = k.val; omega)]
  split
  · simp only [grp 256 (by omega) (by omega),
      show (⟨256 + (k.val - 128 - 128), by omega⟩ : Fin 512) = k from Fin.ext (by show 256 + (k.val - 128 - 128) = k.val; omega)]
  · simp only [grp 384 (by omega) (by omega),
      show (⟨384 + (k.val - 128 - 128 - 128), by omega⟩ : Fin 512) = k from Fin.ext (by show 384 + (k.val - 128 - 128 - 128) = k.val; omega)]

/-- The three gated branches summed, then projected and added. -/
theorem second_apply (a : Vec Ideal S1024x1024 .f32) (rg u : Vec Ideal S1024x512 .f32) (w : Vec Ideal S512x1024 .bf16)
    (ga gb : Vec Ideal S1024x1024 .bf16) (r l : Fin 1024) :
    k0_pay10 a rg u (k0_pay8 rg) (Scalar.ofBits .f32 0x3F800000#32) w ga gb (ix2 r l)
      = gate (ga (ix2 r l)) * a (ix2 r l) + gate (gb (ix2 r l)) * rowMul (fun k => u (ix2 r k) * swish (rg (ix2 r k))) (fun k l => w (ix2 k l)) l := by
  unfold rowMul swish gate
  pointwise [k0_pay10, k0_pay8]
  simp only [zero_sub]

/-- The third branch's projection. -/
theorem third_apply (oc : Vec Ideal S1024x512 .bf16) (w : Vec Ideal S512x1024 .bf16) (r l : Fin 1024) :
    k0_pay9 oc w (ix2 r l) = rowMul (fun k => oc (ix2 r k)) (fun k l => w (ix2 k l)) l := by
  unfold rowMul
  pointwise [k0_pay9]

/-- The third branch gated and added, the sum projected and added to the token. -/
theorem last_apply (u s x : Vec Ideal S1024x1024 .f32) (gc w : Vec Ideal S1024x1024 .bf16) (r l : Fin 1024) :
    k0_pay1 u s (k0_pay11 gc) (Scalar.ofBits .f32 0x3F800000#32) x w (ix2 r l)
      = x (ix2 r l) + rowMul (fun j => s (ix2 r j) + gate (gc (ix2 r j)) * u (ix2 r j)) (fun j l => w (ix2 j l)) l := by
  unfold rowMul gate
  pointwise [k0_pay1, k0_pay11]
  simp only [zero_sub]

/-- What the body stores, element by element. -/
theorem block_apply (x0 : Vec Ideal S1024x1024 .f32) (x1 x2 x3 x4 x5 : Vec Ideal S1024x512 .bf16) (x6 x7 x8 : Vec Ideal S1024x1024 .bf16)
    (x9 : Vec Ideal S1x512 .f32) (x10 x11 x12 : Vec Ideal S512x1024 .bf16) (x13 : Vec Ideal S1024x1024 .bf16) (r l : Fin 1024) :
    out0_14 (F := Ideal) x0 x1 x2 x3 x4 x5 x6 x7 x8 x9 x10 x11 x12 x13 (ix2 r l)
      = mergeRow (fun l => x0 (ix2 r l)) (fun l => x6 (ix2 r l)) (fun l => x7 (ix2 r l)) (fun l => x8 (ix2 r l)) (fun k => x2 (ix2 r k))
          (fun k => x4 (ix2 r k)) (fun k => x1 (ix2 r k)) (fun k => x3 (ix2 r k)) (fun k => x5 (ix2 r k)) (fun k => x9 (ix2 0 k))
          (fun k l => x10 (ix2 k l)) (fun k l => x11 (ix2 k l)) (fun k l => x12 (ix2 k l)) (fun j l => x13 (ix2 j l)) l := by
  unfold out0_14 k0_pay12
  rw [View.canon_unit_zero hz]
  repeat rw [View.ld_unit_zero hz]
  refine (last_apply _ _ _ _ _ _ _).trans ?_
  unfold mergeRow mixRow
  refine congrArg (fun f => x0 (ix2 r l) + rowMul f (fun j l => x13 (ix2 j l)) l) (funext fun j => ?_)
  rw [third_apply, second_apply, first_apply]
  have hw : ∀ k, k0_pay3 (F := Ideal) x4 (ix2 r k) = x4 (ix2 r k) := fun k => rfl
  simp only [groups_apply, hw]

end Cert.Merge
-- ==== Proof.Merge.Ref.lean ====
/- The gated merge's reference, element by element. -/
module

public import proofs.«01_k».proof.Defs
public import proofs.«01_k».proof.Proof.Spec
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Merge

open Idealize.ShloMosaic Idealize.ShloMosaic.TcCoe
open Cert.Reference4Ideal Cert.Reference4Ideal.Read Cert.Spec

/-- The gates of the three branches. -/
theorem ref_gate (p : Vec Ideal S16384x9216 .bf16) (r : Fin 16384) (b : Fin 3) (l : Fin 1024) :
    val_main_v10 (F := Ideal) p (ix3 r b l) = gate (p (ix2 r ⟨b.val * 1024 + l.val, by omega⟩)) := by
  unfold gate
  pointwise [val_main_v10, val_main_v9, val_main_v8, val_main_v7, val_main_v6, val_main_v5, val_main_v4, val_main_v3, val_main_v0, val_main_cst, val_main_cst_0]

/-- The first branch before its projection. -/
theorem ref_first (p : Vec Ideal S16384x9216 .bf16) (oa : Vec Ideal S16384x512 .bf16) (hn : Vec Ideal S512 .f32) (r : Fin 16384) (k : Fin 512) :
    val_main_v26 (F := Ideal) p oa hn (ix2 r k) = unitRow (Ideal.ofBits .f32 0x44000000#32) (fun k => oa (ix2 r k)) k * hn (ix1 k)
      * swish (p (ix2 r ⟨4608 + k.val, by omega⟩)) := by
  unfold unitRow swish gate
  pointwise [val_main_v26, val_main_v25, val_main_v24, val_main_v23, val_main_v22, val_main_v21, val_main_v20, val_main_v19, val_main_v18, val_main_v17,
    val_main_v16, val_main_v15, val_main_v14, val_main_v13, val_main_v12, val_main_v11, val_main_v1, val_main_v0, val_main_call0_v5, val_main_call0_v4,
    val_main_call0_v3, val_main_call0_v2, val_main_call0_v1, val_main_call0_v0, val_main_call0_cst, val_main_call0_cst_0, val_main_cst_1, val_main_cst_2, val_main_cst_3]

/-- The second branch before its projection. -/
theorem ref_second (p : Vec Ideal S16384x9216 .bf16) (ob : Vec Ideal S16384x512 .bf16) (r : Fin 16384) (k : Fin 512) :
    val_main_v41 (F := Ideal) p ob (ix2 r k) = groupUnit (fun k => ob (ix2 r k)) k * swish (p (ix2 r ⟨6656 + k.val, by omega⟩)) := by
  unfold groupUnit unitRow swish gate
  pointwise [val_main_v41, val_main_v40, val_main_v39, val_main_v38, val_main_v37, val_main_v36, val_main_v35, val_main_v34, val_main_v33, val_main_v32,
    val_main_v31, val_main_v30, val_main_v29, val_main_v28, val_main_v27, val_main_v2, val_main_v0, val_main_call1_v5, val_main_call1_v4,
    val_main_call1_v3, val_main_call1_v2, val_main_call1_v1, val_main_call1_v0, val_main_call1_cst, val_main_call1_cst_0, val_main_cst_4, val_main_cst_5, val_main_cst_6]
  have hk : (⟨k.val / 128 * 128 + k.val % 128, by omega⟩ : Fin 512) = k := Fin.ext (by show k.val / 128 * 128 + k.val % 128 = k.val; omega)
  rw [hk]

/-- One token's row of the reference. -/
theorem ref_out (x : Vec Ideal S16384x1024 .f32) (p : Vec Ideal S16384x9216 .bf16) (oa ob oc : Vec Ideal S16384x512 .bf16) (hn : Vec Ideal S512 .f32)
    (wa wb wc : Vec Ideal S512x1024 .f32) (wo : Vec Ideal S1024x1024 .f32) (r : Fin 16384) (l : Fin 1024) :
    val_main_v58 (F := Ideal) x p oa ob oc hn wa wb wc wo (ix2 r l)
      = mergeRow (fun l => x (ix2 r l)) (fun l => p (ix2 r ⟨l.val, by omega⟩)) (fun l => p (ix2 r ⟨1024 + l.val, by omega⟩))
          (fun l => p (ix2 r ⟨2048 + l.val, by omega⟩)) (fun k => p (ix2 r ⟨4608 + k.val, by omega⟩)) (fun k => p (ix2 r ⟨6656 + k.val, by omega⟩))
          (fun k => oa (ix2 r k)) (fun k => ob (ix2 r k)) (fun k => oc (ix2 r k)) (fun k => hn (ix1 k))
          (fun k l => wa (ix2 k l)) (fun k l => wb (ix2 k l)) (fun k l => wc (ix2 k l)) (fun j l => wo (ix2 j l)) l := by
  unfold mergeRow mixRow rowMul
  have h1 : ∀ k, val_main_v26 (F := Ideal) p oa hn (ix2 r k) = _ := fun k => ref_first p oa hn r k
  have h2 : ∀ k, val_main_v41 (F := Ideal) p ob (ix2 r k) = _ := fun k => ref_second p ob r k
  have h3 : ∀ b l, val_main_v10 (F := Ideal) p (ix3 r b l) = _ := fun b l => ref_gate p r b l
  unfold val_main_v58 val_main_v57 val_main_v56 val_main_v55 val_main_v54 val_main_v53 val_main_v52 val_main_v51 val_main_v50 val_main_v49 val_main_v48
    val_main_v47 val_main_v46 val_main_v45 val_main_v44 val_main_v43 val_main_v42
  generalize val_main_v26 (F := Ideal) p oa hn = u1 at *
  generalize val_main_v41 (F := Ideal) p ob = u2 at *
  generalize val_main_v10 (F := Ideal) p = u3 at *
  pointwise []
  simp only [h1, h2, h3]
  rfl

end Cert.Merge
-- ==== Proof.Merge.Value.lean ====
/- The gated merge: the kernel's blocks tile the result, and each element is the reference's. -/
module

public import proofs.«01_k».proof.Defs
public import proofs.«01_k».proof.Proof.Spec
public import proofs.«01_k».proof.Proof.Gen.Kernel4Ideal.Value
public import proofs.«01_k».proof.Proof.Gen.Reference4Ideal.Run
public import proofs.«01_k».proof.Proof.Gen.Reference4Ideal.Read
public import proofs.«01_k».proof.Proof.Merge.Body
public import proofs.«01_k».proof.Proof.Merge.Ref
public import Idealize.ShloMosaic.Lib.Pipeline.ValueKit
public import Idealize.ShloMosaic.Lib.Pointwise
public import Idealize.ShloMosaic.Lib.Quiescent

@[expose] public section

set_option maxRecDepth 16384

noncomputable section

namespace Cert.Merge

open Idealize.ShloMosaic Idealize.ShloMosaic.TcCoe Idealize.SL.Sem
open Idealize.ShloMosaic.Pipeline (Dat)
open Cert.Kernel4Ideal Cert.Kernel4Ideal.Gen Cert.Spec

variable (m : (ℓ : Loc nD τ sig) → Buf (Elt Ideal) ℓ) (ρ : Dev nD → PrngReg)

/-- The gated merge over whole arrays. -/
def merged (x : Vec Ideal S16384x1024 .f32) (p : Vec Ideal S16384x9216 .bf16) (oa ob oc : Vec Ideal S16384x512 .bf16) (hn : Vec Ideal S512 .f32)
    (wa wb wc : Vec Ideal S512x1024 .f32) (wo : Vec Ideal S1024x1024 .f32) : Vec Ideal S16384x1024 .f32 := fun i =>
  mergeRow (fun l => x (ix2 (i 0) l)) (fun l => p (ix2 (i 0) ⟨l.val, by omega⟩)) (fun l => p (ix2 (i 0) ⟨1024 + l.val, by omega⟩))
    (fun l => p (ix2 (i 0) ⟨2048 + l.val, by omega⟩)) (fun k => p (ix2 (i 0) ⟨4608 + k.val, by omega⟩)) (fun k => p (ix2 (i 0) ⟨6656 + k.val, by omega⟩))
    (fun k => oa (ix2 (i 0) k)) (fun k => ob (ix2 (i 0) k)) (fun k => oc (ix2 (i 0) k)) (fun k => hn (ix1 k))
    (fun k l => wa (ix2 k l)) (fun k l => wb (ix2 k l)) (fun k l => wc (ix2 k l)) (fun j l => wo (ix2 j l)) (i 1)

/-- Every window's block index at a grid point. -/
theorem idx : ∀ t : Fin cfg0.N, win0_0.index t = ![t.val, 0] ∧ win0_1.index t = ![t.val, 0] ∧ win0_2.index t = ![t.val, 9]
    ∧ win0_3.index t = ![t.val, 0] ∧ win0_4.index t = ![t.val, 13] ∧ win0_5.index t = ![t.val, 0] ∧ win0_6.index t = ![t.val, 0]
    ∧ win0_7.index t = ![t.val, 1] ∧ win0_8.index t = ![t.val, 2] ∧ win0_9.index t = ![0, 0] ∧ win0_10.index t = ![0, 0]
    ∧ win0_11.index t = ![0, 0] ∧ win0_12.index t = ![0, 0] ∧ win0_13.index t = ![0, 0] ∧ win0_14.index t = ![t.val, 0] :=
  (by decide +kernel : ∀ t : Fin grid0.N, _)

/-- The result array of the kernel's run. -/
abbrev out (c : Dev nD) : Vec Ideal S16384x1024 .f32 :=
  merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- A grid point's block of the result is the merge of the whole arrays at the place the block sits. -/
theorem point (c : Dev nD) (t : Fin cfg0.N) (y : S1024x1024.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y
      = out m c (((cfg0.win 14).blk t).view.emb y) := by
  idx_vars y
  refine (block_apply _ _ _ _ _ _ _ _ _ _ _ _ _ _ _ _).trans ?_
  have e0 : (fun l : Fin 1024 => iblk m c 0 t (ix2 y0 l)) = fun l => m ((c : Thread nD τ).loc main_arg0) (ix2 ((((cfg0.win 14).blk t).view.emb (ix2 y0 y1)) 0) l) :=
    funext fun l => by blk_point [iblk, V, idx t]
  have e1 : (fun l : Fin 512 => iblk m c 1 t (ix2 y0 l)) = fun l => m ((c : Thread nD τ).loc main_arg2) (ix2 ((((cfg0.win 14).blk t).view.emb (ix2 y0 y1)) 0) l) :=
    funext fun l => by blk_point [iblk, V, idx t]
  have e2 : (fun l : Fin 512 => iblk m c 2 t (ix2 y0 l)) = fun l => m ((c : Thread nD τ).loc main_arg1) (ix2 ((((cfg0.win 14).blk t).view.emb (ix2 y0 y1)) 0) ⟨4608 + l.val, by omega⟩) :=
    funext fun l => by blk_point [iblk, V, idx t]
  have e3 : (fun l : Fin 512 => iblk m c 3 t (ix2 y0 l)) = fun l => m ((c : Thread nD τ).loc main_arg3) (ix2 ((((cfg0.win 14).blk t).view.emb (ix2 y0 y1)) 0) l) :=
    funext fun l => by blk_point [iblk, V, idx t]
  have e4 : (fun l : Fin 512 => iblk m c 4 t (ix2 y0 l)) = fun l => m ((c : Thread nD τ).loc main_arg1) (ix2 ((((cfg0.win 14).blk t).view.emb (ix2 y0 y1)) 0) ⟨6656 + l.val, by omega⟩) :=
    funext fun l => by blk_point [iblk, V, idx t]
  have e5 : (fun l : Fin 512 => iblk m c 5 t (ix2 y0 l)) = fun l => m ((c : Thread nD τ).loc main_arg4) (ix2 ((((cfg0.win 14).blk t).view.emb (ix2 y0 y1)) 0) l) :=
    funext fun l => by blk_point [iblk, V, idx t]
  have e6 : (fun l : Fin 1024 => iblk m c 6 t (ix2 y0 l)) = fun l => m ((c : Thread nD τ).loc main_arg1) (ix2 ((((cfg0.win 14).blk t).view.emb (ix2 y0 y1)) 0) ⟨l.val, by omega⟩) :=
    funext fun l => by blk_point [iblk, V, idx t]
  have e7 : (fun l : Fin 1024 => iblk m c 7 t (ix2 y0 l)) = fun l => m ((c : Thread nD τ).loc main_arg1) (ix2 ((((cfg0.win 14).blk t).view.emb (ix2 y0 y1)) 0) ⟨1024 + l.val, by omega⟩) :=
    funext fun l => by blk_point [iblk, V, idx t]
  have e8 : (fun l : Fin 1024 => iblk m c 8 t (ix2 y0 l)) = fun l => m ((c : Thread nD τ).loc main_arg1) (ix2 ((((cfg0.win 14).blk t).view.emb (ix2 y0 y1)) 0) ⟨2048 + l.val, by omega⟩) :=
    funext fun l => by blk_point [iblk, V, idx t]
  have e9 : (fun j : Fin 512 => iblk m c 9 t (ix2 0 j)) = fun j => m ((c : Thread nD τ).loc main_arg5) (ix1 j) :=
    funext fun j => by blk_point [iblk, V, idx t]
  have e10 : (fun (j : Fin 512) (l : Fin 1024) => iblk m c 10 t (ix2 j l)) = fun j l => m ((c : Thread nD τ).loc main_arg6) (ix2 j l) :=
    funext fun j => funext fun l => by blk_point [iblk, V, idx t]
  have e11 : (fun (j : Fin 512) (l : Fin 1024) => iblk m c 11 t (ix2 j l)) = fun j l => m ((c : Thread nD τ).loc main_arg7) (ix2 j l) :=
    funext fun j => funext fun l => by blk_point [iblk, V, idx t]
  have e12 : (fun (j : Fin 512) (l : Fin 1024) => iblk m c 12 t (ix2 j l)) = fun j l => m ((c : Thread nD τ).loc main_arg8) (ix2 j l) :=
    funext fun j => funext fun l => by blk_point [iblk, V, idx t]
  have e13 : (fun (j : Fin 1024) (l : Fin 1024) => iblk m c 13 t (ix2 j l)) = fun j l => m ((c : Thread nD τ).loc main_arg9) (ix2 j l) :=
    funext fun j => funext fun l => by blk_point [iblk, V, idx t]
  have e14 : (((cfg0.win 14).blk t).view.emb (ix2 y0 y1)) 1 = y1 :=
    Fin.ext (by blk_simp [idx t])
  rw [e0, e1, e2, e3, e4, e5, e6, e7, e8, e9, e10, e11, e12, e13]
  unfold out merged
  rw [e14]

/-- The result array after the run. -/
theorem final (c : Dev nD) : (dats m 0 c).arrAt 14 cfg0.N = out m c := by
  refine (dats m 0 c).arrAt_eq_of_covers 14 _ (by decide +kernel) fun t _ y => ?_
  blk_simp
  rw [after0_14]
  exact point m c t y

/-- The kernel's run: the result array at the merge of the arguments, the arguments unchanged. -/
theorem runK : θ_run defs (onTc (τ := τ) (main (F := Ideal))) ⟨m, fun _ => 0, ρ⟩ fun r => ∀ c : Dev nD,
      r.2.mem ((c : Thread nD τ).loc main_v5) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (final m c), (h c).2⟩) (Cert.Kernel4Ideal.Value.run_blocks m ρ)

/-- The reference's last stage over whole arrays is the merge. -/
theorem ref_merged (x : Vec Ideal S16384x1024 .f32) (p : Vec Ideal S16384x9216 .bf16) (oa ob oc : Vec Ideal S16384x512 .bf16) (hn : Vec Ideal S512 .f32)
    (wa wb wc : Vec Ideal S512x1024 .f32) (wo : Vec Ideal S1024x1024 .f32) :
    Cert.Reference4Ideal.Read.val_main_v58 (F := Ideal) x p oa ob oc hn wa wb wc wo = merged x p oa ob oc hn wa wb wc wo := by
  funext i
  idx_vars i
  exact ref_out x p oa ob oc hn wa wb wc wo _ _

/-- The reference keeps its arguments and leaves every counter at zero. -/
theorem frameR : Cert.quiescent_Reference4Ideal (hReference4Ideal := Cert.Reference4Ideal.Gen.facts) := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- Kernel and reference end with the same array on the extended reals, from equal arguments. -/
theorem algebraic : Cert.algebraic_Kernel4Ideal_Reference4Ideal (hKernel4Ideal := Cert.Kernel4Ideal.Gen.facts)
    (hReference4Ideal := Cert.Reference4Ideal.Gen.facts) := fun m ρ m' ρ' _ hag => by
  refine ⟨fun c => out m c, runK m ρ, (θ_run _ _ _).mono (fun _ h c => ⟨(h c).1.trans ?_, (h c).2⟩)
    (Cert.Reference4Ideal.Value.run (F := Ideal) m' ρ')⟩
  obtain ⟨h0, h1, h2, h3, h4, h5, h6, h7, h8, h9⟩ := hag c
  rw [Cert.Reference4Ideal.Read.val_main_v58_eq, ref_merged, h0, h1, h2, h3, h4, h5, h6, h7, h8, h9]

end Cert.Merge
-- ==== Proof.Swa.Spec.lean ====
/- The sliding-window attention's formulas, over extended reals, and the algebra that joins the two ways of dividing. -/
module

public import proofs.«01_k».proof.Proof.Spec
public import Idealize.ShloMosaic.Lib.Pointwise
public import Idealize.ShloMosaic.Lib.IdealHost

@[expose] public section

set_option maxRecDepth 16384

noncomputable section

namespace Cert.Swa

open Idealize.ShloMosaic

/-- One head's vector of 64 turned by its position's angles, whose cosines and sines are `c` and `s`. -/
def turn (a : Fin 64 → EReal) (c s : Fin 32 → EReal) (d : Fin 64) : EReal :=
  if h : d.val < 32 then a d * c ⟨d.val, h⟩ + -(a ⟨d.val + 32, by omega⟩) * s ⟨d.val, h⟩
  else a d * c ⟨d.val - 32, by omega⟩ + a ⟨d.val - 32, by omega⟩ * s ⟨d.val - 32, by omega⟩

/-- Whether row `r` of block `b` sees place `k` of its window of 256 keys: the last 128 positions up to its own, and no place before the first token. -/
def sees (b : Nat) (r : Fin 128) (k : Fin 256) : Prop := (k.val ≤ r.val + 128 ∧ r.val < k.val) ∧ (0 < b ∨ 128 ≤ k.val)

instance (b : Nat) (r : Fin 128) (k : Fin 256) : Decidable (sees b r k) := inferInstanceAs (Decidable (_ ∧ _))

/-- The masked scores of a query against its window. -/
def score (b : Nat) (r : Fin 128) (q : Fin 64 → EReal) (K : Fin 256 → Fin 64 → EReal) (k : Fin 256) : EReal :=
  if sees b r k then (∑ d, q d * K k d) * Ideal.ofBits .f32 0x3E000000#32 else ⊥

/-- The largest of the scores and the head's sink. -/
def peak (s : Fin 256 → EReal) (z : EReal) : EReal := max (Finset.univ.fold max (Ideal.ofBits .f32 0xFF800000#32) s) z

/-- The exponential of a score less the largest. -/
def weight (s : Fin 256 → EReal) (z : EReal) (k : Fin 256) : EReal := Ideal.exp (s k - peak s z)

/-- What the weights are divided by: their sum, with the sink's own weight. -/
def total (s : Fin 256 → EReal) (z : EReal) : EReal := ∑ k, weight s z k + Ideal.exp (z - peak s z)

/-- The values averaged with the weights. -/
def average (s : Fin 256 → EReal) (z : EReal) (v : Fin 256 → EReal) : EReal := Ideal.div (∑ k, weight s z k * v k) (total s z)

/-- The position in the sequence of place `k` of block `b`'s window; the places before the first token are never seen. -/
def pos (b : Fin 128) (k : Fin 256) : Fin 16384 :=
  ⟨if b.val = 0 ∧ k.val < 128 then k.val else 128 * b.val + k.val - 128, by split <;> omega⟩

/-- Place `e` of group `j` in `n` groups of 128. -/
def at128 {n : Nat} (j : Fin n) (e : Fin 128) : Fin (128 * n) := ⟨128 * j.val + e.val, by have := j.isLt; have := e.isLt; omega⟩

/-- Lane `d` of half `h` of a register of 128 lanes, which holds two heads. -/
def lane (h : Fin 2) (d : Fin 64) : Fin 128 := ⟨64 * h.val + d.val, by omega⟩

/-- A sum over 128 lanes by halves. -/
theorem sum_lanes (f : Fin 128 → EReal) : ∑ e, f e = ∑ d, f (lane 0 d) + ∑ d, f (lane 1 d) := by
  rw [Fin.sum_univ_add (a := 64) (b := 64)]
  refine congrArg₂ (· + ·) (Finset.sum_congr rfl fun d _ => congrArg f (Fin.ext ?_)) (Finset.sum_congr rfl fun d _ => congrArg f (Fin.ext ?_))
  · show d.val = 64 * 0 + d.val; omega
  · show 64 + d.val = 64 * 1 + d.val; omega

/-- The scale of the scores is one eighth. -/
theorem eighth : Ideal.ofBits .f32 0x3E000000#32 = (((1 : ℝ) / 8 : ℝ) : EReal) := by
  simp [Ideal.ofBits, Ideal.ieee, -EReal.coe_mul]; norm_num

/-- The pattern of minus infinity. -/
theorem minus_inf : Ideal.ofBits .f32 0xFF800000#32 = ⊥ := by
  simp [Ideal.ofBits, Ideal.ieee]

/-- The exponential of anything but `⊤`, as a real number. -/
theorem exp_real {x : EReal} (h : x ≠ ⊤) : ∃ r : ℝ, 0 ≤ r ∧ Ideal.exp x = (r : EReal) := by
  induction x with
  | bot => exact ⟨0, le_rfl, rfl⟩
  | top => exact absurd rfl h
  | coe x => exact ⟨Real.exp x, (Real.exp_pos x).le, rfl⟩

/-- A sum of nonnegative reals is one. -/
theorem sum_real {ι : Type*} (S : Finset ι) (f : ι → EReal) (h : ∀ i, ∃ r : ℝ, 0 ≤ r ∧ f i = (r : EReal)) :
    ∃ r : ℝ, 0 ≤ r ∧ ∑ i ∈ S, f i = (r : EReal) := by
  classical
  choose g h0 hg using h
  refine ⟨∑ i ∈ S, g i, Finset.sum_nonneg fun i _ => h0 i, ?_⟩
  simp only [hg]
  induction S using Finset.induction_on with
  | empty => simp
  | insert a S ha ih => rw [Finset.sum_insert ha, Finset.sum_insert ha, ih, EReal.coe_add]

variable {s : Fin 256 → EReal} {z : EReal}

/-- With a real sink and no score at `⊤` the largest is a real number. -/
theorem peak_real (hs : ∀ k, s k ≠ ⊤) (h0 : z ≠ ⊥) (h1 : z ≠ ⊤) : ∃ r : ℝ, peak s z = (r : EReal) := by
  have hb : peak s z ≠ ⊥ := fun h => h0 (le_bot_iff.1 (h ▸ le_max_right _ _))
  have ht : peak s z ≠ ⊤ := by
    refine ne_of_lt (max_lt ?_ (lt_top_iff_ne_top.2 h1))
    rw [Finset.fold_max_lt]
    refine ⟨?_, fun k _ => lt_top_iff_ne_top.2 (hs k)⟩
    rw [minus_inf]
    exact bot_lt_top
  exact ⟨(peak s z).toReal, (EReal.coe_toReal ht hb).symm⟩

/-- Each weight is then a nonnegative real. -/
theorem weight_real (hs : ∀ k, s k ≠ ⊤) (h0 : z ≠ ⊥) (h1 : z ≠ ⊤) (k : Fin 256) : ∃ r : ℝ, 0 ≤ r ∧ weight s z k = (r : EReal) := by
  obtain ⟨p, hp⟩ := peak_real hs h0 h1
  refine exp_real ?_
  rw [hp, sub_eq_add_neg]
  exact EReal.add_ne_top (hs k) (by rw [← EReal.coe_neg]; exact EReal.coe_ne_top _)

/-- And their total a positive real. -/
theorem total_real (hs : ∀ k, s k ≠ ⊤) (h0 : z ≠ ⊥) (h1 : z ≠ ⊤) : ∃ r : ℝ, 0 < r ∧ total s z = (r : EReal) := by
  obtain ⟨p, hp⟩ := peak_real hs h0 h1
  obtain ⟨w, hw0, hw⟩ := sum_real Finset.univ (weight s z) (weight_real hs h0 h1)
  refine ⟨w + Real.exp (z.toReal - p), by have := Real.exp_pos (z.toReal - p); linarith, ?_⟩
  unfold total
  rw [hw, hp, EReal.coe_add]
  conv_lhs => rw [← EReal.coe_toReal h1 h0, ← EReal.coe_sub]
  rfl

/-- Dividing each weight before averaging is dividing the average. -/
theorem average_eq (hs : ∀ k, s k ≠ ⊤) (h0 : z ≠ ⊥) (h1 : z ≠ ⊤) (v : Fin 256 → EReal) :
    ∑ k, Ideal.div (weight s z k) (total s z) * v k = average s z v := by
  obtain ⟨t, ht, e⟩ := total_real hs h0 h1
  have hd : ∀ x : EReal, Ideal.div x (total s z) = ((t⁻¹ : ℝ) : EReal) * x := fun x => by
    rw [Ideal.div, if_neg (by rw [e]; exact_mod_cast ht.ne'), e, ← EReal.coe_inv, mul_comm]
  have hi : (0 : EReal) ≤ ((t⁻¹ : ℝ) : EReal) := by exact_mod_cast (inv_pos.2 ht).le
  have hm : ∀ S : Finset (Fin 256), ∑ k ∈ S, ((t⁻¹ : ℝ) : EReal) * (weight s z k * v k) = ((t⁻¹ : ℝ) : EReal) * ∑ k ∈ S, weight s z k * v k := by
    classical
    intro S
    induction S using Finset.induction_on with
    | empty => simp
    | insert a S ha ih =>
      rw [Finset.sum_insert ha, Finset.sum_insert ha, ih, EReal.left_distrib_of_nonneg_of_ne_top hi (EReal.coe_ne_top _)]
  unfold average
  rw [hd, ← hm]
  exact Finset.sum_congr rfl fun k _ => by rw [hd, mul_assoc]

/-- The average of zeros. -/
theorem average_zero (hs : ∀ k, s k ≠ ⊤) (h0 : z ≠ ⊥) (h1 : z ≠ ⊤) : average s z (fun _ => 0) = 0 := by
  obtain ⟨t, ht, e⟩ := total_real hs h0 h1
  unfold average
  simp only [mul_zero, Finset.sum_const_zero]
  exact Ideal.zero_div (by rw [e]; exact_mod_cast ht.ne')

/-- Values at places whose score is `⊥` do not matter. -/
theorem average_congr {v v' : Fin 256 → EReal} (h : ∀ k, s k = ⊥ ∨ v k = v' k) : average s z v = average s z v' := by
  unfold average
  refine congrArg (Ideal.div · _) (Finset.sum_congr rfl fun k _ => ?_)
  rcases h k with h | h
  · have : weight s z k = 0 := by rw [weight, h, sub_eq_add_neg, EReal.bot_add]; rfl
    rw [this, zero_mul, zero_mul]
  · rw [h]

/-- Scores depend on the keys only where they are seen. -/
theorem score_congr {b : Nat} {r : Fin 128} {q : Fin 64 → EReal} {K K' : Fin 256 → Fin 64 → EReal}
    (h : ∀ k, sees b r k → K k = K' k) : score b r q K = score b r q K' := by
  funext k
  unfold score
  split
  · next hk => rw [h k hk]
  · rfl

/-- Neither infinity: a real number. -/
def IsReal (x : EReal) : Prop := x ≠ ⊥ ∧ x ≠ ⊤

/-- Such a value as a real. -/
theorem IsReal.coe {x : EReal} (h : IsReal x) : ∃ r : ℝ, x = (r : EReal) := ⟨x.toReal, (EReal.coe_toReal h.2 h.1).symm⟩

/-- Every real is such a value. -/
theorem IsReal.of (r : ℝ) : IsReal (r : EReal) := ⟨EReal.coe_ne_bot _, EReal.coe_ne_top _⟩

/-- Products stay real. -/
theorem IsReal.mul {x y : EReal} (hx : IsReal x) (hy : IsReal y) : IsReal (x * y) := by
  obtain ⟨a, rfl⟩ := hx.coe; obtain ⟨b, rfl⟩ := hy.coe
  rw [← EReal.coe_mul]; exact .of _

/-- Sums stay real. -/
theorem IsReal.add {x y : EReal} (hx : IsReal x) (hy : IsReal y) : IsReal (x + y) := by
  obtain ⟨a, rfl⟩ := hx.coe; obtain ⟨b, rfl⟩ := hy.coe
  rw [← EReal.coe_add]; exact .of _

/-- Negatives stay real. -/
theorem IsReal.neg {x : EReal} (hx : IsReal x) : IsReal (-x) := by
  obtain ⟨a, rfl⟩ := hx.coe
  rw [← EReal.coe_neg]; exact .of _

/-- Finite sums stay real. -/
theorem IsReal.sum {ι : Type*} (S : Finset ι) (f : ι → EReal) (h : ∀ i, IsReal (f i)) : IsReal (∑ i ∈ S, f i) := by
  classical
  induction S using Finset.induction_on with
  | empty => rw [Finset.sum_empty]; exact .of 0
  | insert a S ha ih => rw [Finset.sum_insert ha]; exact (h a).add ih

/-- A turned vector of reals is one of reals. -/
theorem turn_real {a : Fin 64 → EReal} {c s : Fin 32 → EReal} (ha : ∀ d, IsReal (a d)) (hc : ∀ d, IsReal (c d)) (hs : ∀ d, IsReal (s d))
    (d : Fin 64) : IsReal (turn a c s d) := by
  unfold turn
  split
  · exact ((ha _).mul (hc _)).add ((ha _).neg.mul (hs _))
  · exact ((ha _).mul (hc _)).add ((ha _).mul (hs _))

/-- A score of real queries and keys is not `⊤`. -/
theorem score_ne_top {b : Nat} {r : Fin 128} {q : Fin 64 → EReal} {K : Fin 256 → Fin 64 → EReal}
    (hq : ∀ d, IsReal (q d)) (hK : ∀ k d, IsReal (K k d)) (k : Fin 256) : score b r q K k ≠ ⊤ := by
  unfold score
  split
  · rw [eighth]
    exact ((IsReal.sum _ _ fun d => (hq d).mul (hK k d)).mul (.of _)).2
  · exact bot_ne_top

end Cert.Swa
-- ==== Proof.Swa.Mask.lean ====
/- The sliding-window kernel's mask, read at a row of a block and a place of its window. -/
module

public import proofs.«01_k».proof.Proof.Gen.Kernel5Ideal.Skeleton
public import proofs.«01_k».proof.Proof.Swa.Spec
public import Idealize.ShloMosaic.Lib.Pipeline.ValueKit

@[expose] public section

set_option maxRecDepth 16384

noncomputable section

namespace Cert.Swa

open Cert.Kernel5Ideal Cert.Kernel5Ideal.Gen Idealize.ShloMosaic Idealize.ShloMosaic.TcCoe Idealize.SL.Sem

/-- The mask of a block whose index in the sequence is `b`. -/
def seenAt (b : BitVec 32) : IVec S128x256 1 :=
  andi k0_pay6 (ori (broadcast S128x256 (Scalar.cmpi .sgt b 0#32))
    (cmpi .sge (iota .tc S128x256 32 [1] iota_S128x256_d1_w32) (broadcast S128x256 128#32)))

/-- The mask at a row and a place. -/
theorem seenAt_apply {b : Nat} (hb : b < 128) (r : Fin 128) (k : Fin 256) :
    seenAt (BitVec.ofNat 32 b) (ix2 r k) = if sees b r k then 1#1 else 0#1 := by
  pointwise [seenAt, k0_pay6]
  have e0 := (by decide +kernel : ∀ (r : Fin 128) (k : Fin 256),
    IntOp.andi (IntOp.cmpi .sge (IntOp.subi (IntOp.addi (BitVec.ofNat 32 r.val) 128#32) (BitVec.ofNat 32 k.val)) 0#32)
      (IntOp.cmpi .slt (IntOp.subi (IntOp.addi (BitVec.ofNat 32 r.val) 128#32) (BitVec.ofNat 32 k.val)) 128#32)
      = if k.val ≤ r.val + 128 ∧ r.val < k.val then 1#1 else 0#1) r k
  have e1 := (by decide +kernel : ∀ (b : Fin 128) (k : Fin 256),
    IntOp.ori (Scalar.cmpi .sgt (BitVec.ofNat 32 b.val) 0#32) (IntOp.cmpi .sge (BitVec.ofNat 32 k.val) 128#32)
      = if 0 < b.val ∨ 128 ≤ k.val then 1#1 else 0#1) ⟨b, hb⟩ k
  rw [e0, e1]
  unfold sees
  by_cases h0 : k.val ≤ r.val + 128 ∧ r.val < k.val <;> by_cases h1 : 0 < b ∨ 128 ≤ k.val <;> simp only [h0, h1, and_true, and_false, if_true, if_false] <;> rfl

end Cert.Swa
-- ==== Proof.Swa.Piece.lean ====
/- One stored piece of the sliding-window kernel: two heads' attention over one block of 128 queries, read at a row and a column. -/
module

public import proofs.«01_k».proof.Proof.Gen.Kernel5Ideal.Skeleton
public import proofs.«01_k».proof.Proof.Swa.Mask
public import Idealize.ShloMosaic.Lib.Pipeline.ValueKit

@[expose] public section

set_option maxRecDepth 16384

noncomputable section

namespace Cert.Swa

open Cert.Kernel5Ideal Cert.Kernel5Ideal.Gen Idealize.ShloMosaic Idealize.ShloMosaic.TcCoe Idealize.SL.Sem

/-- One half of a piece: the queries kept where `sel` holds, against one window of keys and values. -/
def half (sel : IVec S128x128 1) (seen : IVec S128x256 1) (q : FVec Ideal S128x128 .f32) (K V : FVec Ideal S256x128 .bf16) (z : Ideal .f32) :
    FVec Ideal S128x128 .f32 :=
  let s : FVec Ideal S128x256 .f32 := select seen
    (mulf (matmul dot_S128x128_S256x128_S128x256_1_1_0_0_n_n none
      (truncf .bf16 (select sel q (broadcast S128x128 (Scalar.ofBits (F := Ideal) .f32 0x00000000#32))) bitsLt_bf16_f32) K
      (constant S128x256 .f32 0x00000000#32)) (broadcast S128x256 (Scalar.ofBits .f32 0x3E000000#32)))
    (broadcast S128x256 (Named.named κ "mask" 0xF149F2CA#32))
  let p : FVec Ideal S128x1 .f32 := maximumf (shapeCast S128x1 (multiReduction .maximumf [1] S128 s 0xFF800000#32 reduces_S128x256_S128 (.inl rfl) rfl)
    shapeCasts_S128_S128x1) (broadcast S128x1 z)
  let w : FVec Ideal S128x256 .f32 := exp (subf s (broadcastTo S128x256 p broadcasts_S128x1_S128x256))
  divf (matmul dot_S128x256_S256x128_S128x128_1_0_0_1_n_n none (truncf .bf16 w bitsLt_bf16_f32) V (constant S128x128 .f32 0x00000000#32))
    (broadcastTo S128x128 (addf (shapeCast S128x1 (multiReduction .add [1] S128 w 0x00000000#32 reduces_S128x256_S128 (.inl rfl) rfl)
      shapeCasts_S128_S128x1) (exp (subf (broadcast S128x1 z) p))) broadcasts_S128x1_S128x128)

/-- A piece: its two halves added. -/
def piece (low : IVec S128x128 1) (seen : IVec S128x256 1) (q : FVec Ideal S128x128 .f32) (K A B : FVec Ideal S256x128 .bf16) (y z : Ideal .f32) :
    FVec Ideal S128x128 .bf16 :=
  truncf .bf16 (addf (half low seen q K A y) (half (xori low (constantI S128x128 1 1#1)) seen q K B z)) bitsLt_bf16_f32

/-- A half at a row and a column. -/
theorem half_apply (sel : IVec S128x128 1) (seen : IVec S128x256 1) (q : FVec Ideal S128x128 .f32) (K V : FVec Ideal S256x128 .bf16) (z : Ideal .f32)
    (r l : Fin 128) :
    half sel seen q K V z (ix2 r l)
      = average (fun k => Scalar.select (seen (ix2 r k))
          ((∑ e, Scalar.select (sel (ix2 r e)) (q (ix2 r e) * K (ix2 k e)) 0) * Ideal.ofBits .f32 0x3E000000#32) ⊥) z (fun k => V (ix2 k l)) := by
  pointwise [half]
  rfl

/-- The lanes of the first half. -/
theorem low_apply (r : Fin 128) (h : Fin 2) (d : Fin 64) : k0_pay7 (ix2 r (lane h d)) = if h = 0 then 1#1 else 0#1 := by
  pointwise [k0_pay7]
  refine ((by decide +kernel : ∀ e : Fin 128, IntOp.cmpi .slt (BitVec.ofNat 32 e.val) 64#32 = if e.val < 64 then 1#1 else 0#1) (lane h d)).trans ?_
  fin_cases h
  · exact if_pos (by show 64 * 0 + d.val < 64; omega)
  · exact if_neg (by show ¬ 64 * 1 + d.val < 64; omega)

/-- A half's scores, where it keeps the lanes of half `h` and the keys repeat in both halves. -/
theorem half_score {b : Nat} {r : Fin 128} {h : Fin 2} {sel : IVec S128x128 1} {seen : IVec S128x256 1} {q : FVec Ideal S128x128 .f32}
    {K : FVec Ideal S256x128 .bf16} {Kt : Fin 256 → Fin 64 → EReal}
    (hsel : ∀ h' d, sel (ix2 r (lane h' d)) = if h' = h then 1#1 else 0#1)
    (hseen : ∀ k, seen (ix2 r k) = if sees b r k then 1#1 else 0#1) (hK : ∀ k h d, K (ix2 k (lane h d)) = Kt k d) :
    (fun k => Scalar.select (seen (ix2 r k))
        ((∑ e, Scalar.select (sel (ix2 r e)) (q (ix2 r e) * K (ix2 k e)) 0) * Ideal.ofBits .f32 0x3E000000#32) ⊥)
      = score b r (fun d => q (ix2 r (lane h d))) Kt := by
  funext k
  unfold score
  rw [hseen]
  split
  · rw [sum_lanes]
    simp only [hsel, hK]
    fin_cases h <;> simp [Scalar.select]
  · simp [Scalar.select]

/-- A piece at a row and a lane: the attention of the head that the lane belongs to. -/
theorem piece_apply {b : Nat} {r : Fin 128} {seen : IVec S128x256 1} {q : FVec Ideal S128x128 .f32}
    {K A B : FVec Ideal S256x128 .bf16} {y z : EReal} {Kt Vt : Fin 256 → Fin 64 → EReal}
    (hseen : ∀ k, seen (ix2 r k) = if sees b r k then 1#1 else 0#1) (hK : ∀ k h d, K (ix2 k (lane h d)) = Kt k d)
    (hA : ∀ k h d, A (ix2 k (lane h d)) = if h = 0 then Vt k d else 0) (hB : ∀ k h d, B (ix2 k (lane h d)) = if h = 0 then 0 else Vt k d)
    (rq : ∀ e, IsReal (q (ix2 r e))) (rK : ∀ k d, IsReal (Kt k d)) (ry : IsReal y) (rz : IsReal z) (h : Fin 2) (d : Fin 64) :
    piece k0_pay7 seen q K A B y z (ix2 r (lane h d))
      = average (score b r (fun d => q (ix2 r (lane h d))) Kt) (if h = 0 then y else z) (fun k => Vt k d) := by
  have e0 := half_score (h := 0) (q := q) (low_apply r) hseen hK
  have e1 := half_score (h := 1) (sel := xori k0_pay7 (constantI S128x128 1 1#1)) (q := q)
    (fun h d => by
      show k0_pay7 (ix2 r (lane h d)) ^^^ 1#1 = _
      rw [low_apply]
      fin_cases h <;> rfl) hseen hK
  show half _ _ _ _ _ _ _ + half _ _ _ _ _ _ _ = _
  rw [half_apply, half_apply, e0, e1]
  have t : ∀ h : Fin 2, ∀ k, score b r (fun d => q (ix2 r (lane h d))) Kt k ≠ ⊤ := fun h => score_ne_top (fun d => rq _) rK
  simp only [hA, hB]
  fin_cases h
  · have := average_zero (t 1) rz.1 rz.2
    simp [this]
  · have := average_zero (t 0) ry.1 ry.2
    simp [this]

end Cert.Swa
-- ==== Proof.Swa.Body.lean ====
/- The sliding-window kernel's block: what one grid point stores, read at a row and a column. -/
module

public import proofs.«01_k».proof.Proof.Gen.Kernel5Ideal.Value
public import proofs.«01_k».proof.Proof.Swa.Piece

@[expose] public section

set_option maxRecDepth 16384

noncomputable section

namespace Cert.Swa

open Cert.Kernel5Ideal Cert.Kernel5Ideal.Gen Idealize.ShloMosaic Idealize.ShloMosaic.TcCoe Idealize.SL.Sem

variable (m : (ℓ : Loc nD τ sig) → Buf (Elt Ideal) ℓ)

/-- An array from its entries by row and column. -/
def arr {a b : Nat} (f : Fin a → Fin b → EReal) : (⟨2, ![a, b]⟩ : Shape).Idx → EReal := fun y => f (y 0) (y 1)

/-- The queries of block `j`, column tile `u`, turned by their positions' angles. -/
def qAt (x1 x2 : Vec Ideal S512x512 .bf16) (x11 x12 : Vec Ideal S512x128 .f32) (j u : Fin 4) (r l : Fin 128) : EReal :=
  x1 (ix2 (at128 j r) (at128 u l)) * x11 (ix2 (at128 j r) l) + x2 (ix2 (at128 j r) (at128 u l)) * x12 (ix2 (at128 j r) l)

/-- The rows of a window: the previous block's, then this grid point's. -/
def rows {n : Nat} (prev : Fin 128 → Fin n → EReal) (cur : Fin 512 → Fin n → EReal) (j : Fin 4) (k : Fin 256) (e : Fin n) : EReal :=
  if h : 128 * j.val + k.val < 128 then prev ⟨128 * j.val + k.val, h⟩ e else cur ⟨128 * j.val + k.val - 128, by omega⟩ e

/-- The keys of block `j`'s window, tile `g`, turned. -/
def kAt (x3 x4 : Vec Ideal S512x256 .bf16) (x7 x8 : Vec Ideal S128x256 .bf16) (x11 x12 : Vec Ideal S512x128 .f32) (x13 x14 : Vec Ideal S128x128 .f32)
    (j : Fin 4) (g : Fin 2) : Fin 256 → Fin 128 → EReal :=
  rows (fun k e => x7 (ix2 k (at128 g e)) * x13 (ix2 k e) + x8 (ix2 k (at128 g e)) * x14 (ix2 k e))
    (fun k e => x3 (ix2 k (at128 g e)) * x11 (ix2 k e) + x4 (ix2 k (at128 g e)) * x12 (ix2 k e)) j

/-- The values of block `j`'s window, tile `g`. -/
def vAt (cur : Vec Ideal S512x256 .bf16) (prev : Vec Ideal S128x256 .bf16) (j : Fin 4) (g : Fin 2) : Fin 256 → Fin 128 → EReal :=
  rows (fun k e => prev (ix2 k (at128 g e))) (fun k e => cur (ix2 k (at128 g e))) j

/-- The group of keys and values that a column tile of queries attends to. -/
def grp (u : Fin 4) : Fin 2 := ⟨u.val / 2, by omega⟩

/-- The piece that a grid point stores at block `j`, column tile `u`. -/
def pieceAt (i : Nat) (x0 : Vec Ideal S8 .f32) (x1 x2 : Vec Ideal S512x512 .bf16) (x3 x4 x5 x6 : Vec Ideal S512x256 .bf16)
    (x7 x8 x9 x10 : Vec Ideal S128x256 .bf16) (x11 x12 : Vec Ideal S512x128 .f32) (x13 x14 : Vec Ideal S128x128 .f32) (j u : Fin 4) :
    FVec Ideal S128x128 .bf16 :=
  piece k0_pay7 (seenAt (BitVec.ofNat 32 (4 * i + j.val))) (arr (qAt x1 x2 x11 x12 j u)) (arr (kAt x3 x4 x7 x8 x11 x12 x13 x14 j (grp u)))
    (arr (vAt x5 x9 j (grp u))) (arr (vAt x6 x10 j (grp u)))
    (x0 (ix1 ⟨2 * u.val, by omega⟩)) (x0 (ix1 ⟨2 * u.val + 1, by omega⟩))

/-- A block of 512 rows and columns from its sixteen tiles. -/
def tiled (f : Fin 4 → Fin 4 → Vec Ideal S128x128 .bf16) : Vec Ideal S512x512 .bf16 :=
  arr (a := 512) (b := 512) fun R C => f ⟨R.val / 128, by omega⟩ ⟨C.val / 128, by omega⟩ (ix2 ⟨R.val % 128, by omega⟩ ⟨C.val % 128, by omega⟩)

/-- The tiled block inside tile `(j, u)`. -/
theorem tiled_apply (f : Fin 4 → Fin 4 → Vec Ideal S128x128 .bf16) (j u : Fin 4) (y : S512x512.Idx) (x : S128x128.Idx)
    (h0 : (y 0).val = 128 * j.val + (x 0).val) (h1 : (y 1).val = 128 * u.val + (x 1).val) : tiled f y = f j u x := by
  obtain ⟨r, l, rfl⟩ : ∃ r l : Fin 128, x = ix2 r l := ⟨x 0, x 1, by funext a; fin_cases a <;> rfl⟩
  have h0 : (y 0).val = 128 * j.val + r.val := h0
  have h1 : (y 1).val = 128 * u.val + l.val := h1
  have e : ∀ (j' u' : Fin 4) (r' l' : Fin 128), j' = j → u' = u → r' = r → l' = l → f j' u' (ix2 r' l') = f j u (ix2 r l) := by
    rintro _ _ _ _ rfl rfl rfl rfl; rfl
  exact e _ _ _ _ (Fin.ext (by show (y 0).val / 128 = _; omega)) (Fin.ext (by show (y 1).val / 128 = _; omega))
    (Fin.ext (by show (y 0).val % 128 = _; omega)) (Fin.ext (by show (y 1).val % 128 = _; omega))

/-- The tiled block read where a tile is stored. -/
theorem tiled_emb (f : Fin 4 → Fin 4 → Vec Ideal S128x128 .bf16) (j u : Fin 4) (off : Fin 2 → Nat) (inb) (h0 : off 0 = 128 * j.val)
    (h1 : off 1 = 128 * u.val) (x : S128x128.Idx) : tiled f ((Rect.unit (s := S512x512) off ![128, 128] inb).emb x) = f j u x :=
  tiled_apply f j u _ x ((Rect.idx_unit_val (s := S512x512) off ![128, 128] inb x 0).trans (by rw [h0]))
    ((Rect.idx_unit_val (s := S512x512) off ![128, 128] inb x 1).trans (by rw [h1]))

/-- A rectangle read out of a whole buffer, at a row and a column. -/
theorem cut {a b n k : Nat} {p : EltTy} (arg : Memref sig .tc .vmem ⟨2, ![a, b]⟩ p) (ha : arg.IsWhole) (x : Vec Ideal ⟨2, ![a, b]⟩ p)
    (off : Fin 2 → Nat) (inb) (hT : (⟨2, ![n, k]⟩ : Shape).ShapeCasts ⟨2, ![n, k]⟩) (r : Fin n) (e : Fin k) (R : Fin a) (E : Fin b)
    (hR : R.val = off 0 + r.val) (hE : E.val = off 1 + e.val) :
    shapeCast ⟨2, ![n, k]⟩ (View.readAt (Elt Ideal) arg.view (Rect.unit (s := ⟨2, ![a, b]⟩) off (⟨2, ![n, k]⟩ : Shape).size inb).toLoadRect (ha.unread x)) hT (ix2 r e)
      = x (ix2 R E) := by
  refine (congrFun (shapeCast_self _ hT) (ix2 r e)).trans ?_
  exact (View.ld_unit_apply_of _ off _ inb (ix2 r e) (ix2 R E) (fun a => by fin_cases a; exacts [hR, hE])).trans (congrFun (ha.read_unread x) _)

/-- A window's rows sliced out of the previous rows and the current rows laid after them. -/
theorem slice_rows (P : S128x128.Idx → EReal) (C : S512x128.Idx → EReal) (j : Fin 4) (hc) (hs) (k : Fin 256) (e : Fin 128) :
    extractStridedSlice S256x128 ![128 * j.val, 0] (concatenate S640x128 0 [⟨S128x128, P⟩, ⟨S512x128, C⟩] hc) hs (ix2 k e)
      = rows (fun k e => P (ix2 k e)) (fun k e => C (ix2 k e)) j k e := by
  have := j.isLt
  have := k.isLt
  refine (extractStridedSlice_apply _ _ _ _ (ix2 (⟨128 * j.val + k.val, by omega⟩ : Fin 640) e)
    (fun a => by fin_cases a; exacts [rfl, (Nat.zero_add _).symm])).trans ?_
  unfold rows
  split
  · rename_i h
    exact concatenate_pair_apply_left (t := S640x128) (s₁ := S128x128) (s₂ := S512x128) 0 _ _ _ _ rfl (ix2 ⟨128 * j.val + k.val, h⟩ e)
      (fun b => by fin_cases b <;> rfl)
  · rename_i h
    exact concatenate_pair_apply_right (t := S640x128) (s₁ := S128x128) (s₂ := S512x128) 0 _ _ _ _ rfl rfl (ix2 ⟨128 * j.val + k.val - 128, by omega⟩ e)
      (fun b hb => by fin_cases b; exacts [absurd rfl hb, rfl]) (by show 128 * j.val + k.val - 128 + 128 = 128 * j.val + k.val; omega)

/-- A piece of the block from what the kernel reads. -/
theorem piece_eq (i : Nat) (x0 : Vec Ideal S8 .f32) (x1 x2 : Vec Ideal S512x512 .bf16) (x3 x4 x5 x6 : Vec Ideal S512x256 .bf16)
    (x7 x8 x9 x10 : Vec Ideal S128x256 .bf16) (x11 x12 : Vec Ideal S512x128 .f32) (x13 x14 : Vec Ideal S128x128 .f32) (j u : Fin 4)
    {w : BitVec 32} {C S : FVec Ideal S512x128 .f32} {cp sp : FVec Ideal S128x128 .f32} {q qr kp kpr ap bp : FVec Ideal S128x128 .bf16}
    {kc kcr ac bc : FVec Ideal S512x128 .bf16} {y z : EReal} {hq hs}
    (ew : w = BitVec.ofNat 32 (4 * i + j.val)) (eC : ∀ r e, C (ix2 r e) = x11 (ix2 r e)) (eS : ∀ r e, S (ix2 r e) = x12 (ix2 r e))
    (ecp : ∀ r e, cp (ix2 r e) = x13 (ix2 r e)) (esp : ∀ r e, sp (ix2 r e) = x14 (ix2 r e))
    (eq : ∀ r e, q (ix2 r e) = x1 (ix2 (at128 j r) (at128 u e))) (eqr : ∀ r e, qr (ix2 r e) = x2 (ix2 (at128 j r) (at128 u e)))
    (ekp : ∀ r e, kp (ix2 r e) = x7 (ix2 r (at128 (grp u) e))) (ekpr : ∀ r e, kpr (ix2 r e) = x8 (ix2 r (at128 (grp u) e)))
    (ekc : ∀ r e, kc (ix2 r e) = x3 (ix2 r (at128 (grp u) e))) (ekcr : ∀ r e, kcr (ix2 r e) = x4 (ix2 r (at128 (grp u) e)))
    (eap : ∀ r e, ap (ix2 r e) = x9 (ix2 r (at128 (grp u) e))) (eac : ∀ r e, ac (ix2 r e) = x5 (ix2 r (at128 (grp u) e)))
    (ebp : ∀ r e, bp (ix2 r e) = x10 (ix2 r (at128 (grp u) e))) (ebc : ∀ r e, bc (ix2 r e) = x6 (ix2 r (at128 (grp u) e)))
    (ey : y = x0 (ix1 ⟨2 * u.val, by omega⟩)) (ez : z = x0 (ix1 ⟨2 * u.val + 1, by omega⟩)) :
    piece k0_pay7 (seenAt w)
        (addf (mulf (extf .f32 q bitsLt_bf16_f32) (extractStridedSlice S128x128 ![128 * j.val, 0] C hq))
          (mulf (extf .f32 qr bitsLt_bf16_f32) (extractStridedSlice S128x128 ![128 * j.val, 0] S hq)))
        (extractStridedSlice S256x128 ![128 * j.val, 0] (truncf .bf16 (concatenate S640x128 0
          [⟨S128x128, addf (mulf (extf .f32 kp bitsLt_bf16_f32) cp) (mulf (extf .f32 kpr bitsLt_bf16_f32) sp)⟩,
           ⟨S512x128, addf (mulf (extf .f32 kc bitsLt_bf16_f32) C) (mulf (extf .f32 kcr bitsLt_bf16_f32) S)⟩] concatenates_S128x128_S512x128_S640x128_d0) bitsLt_bf16_f32) hs)
        (extractStridedSlice S256x128 ![128 * j.val, 0] (concatenate S640x128 0 [⟨S128x128, ap⟩, ⟨S512x128, ac⟩] concatenates_S128x128_S512x128_S640x128_d0) hs)
        (extractStridedSlice S256x128 ![128 * j.val, 0] (concatenate S640x128 0 [⟨S128x128, bp⟩, ⟨S512x128, bc⟩] concatenates_S128x128_S512x128_S640x128_d0) hs) y z
      = pieceAt i x0 x1 x2 x3 x4 x5 x6 x7 x8 x9 x10 x11 x12 x13 x14 j u := by
  subst ew ey ez
  unfold pieceAt
  congr 1
  · funext v
    idx_vars v
    have e : ∀ (A : FVec Ideal S512x128 .f32) (h), extractStridedSlice S128x128 ![128 * j.val, 0] A h (ix2 v0 v1) = A (ix2 (at128 j v0) v1) :=
      fun A h => extractStridedSlice_apply _ _ _ _ (ix2 (at128 j v0) v1) (fun a => by fin_cases a; exacts [rfl, (Nat.zero_add _).symm])
    show q (ix2 v0 v1) * extractStridedSlice S128x128 ![128 * j.val, 0] C hq (ix2 v0 v1)
      + qr (ix2 v0 v1) * extractStridedSlice S128x128 ![128 * j.val, 0] S hq (ix2 v0 v1) = qAt x1 x2 x11 x12 j u v0 v1
    rw [e, e, eq, eqr, eC, eS]
    rfl
  · funext v
    idx_vars v
    refine (slice_rows _ _ j concatenates_S128x128_S512x128_S640x128_d0 hs v0 v1).trans ?_
    show _ = kAt x3 x4 x7 x8 x11 x12 x13 x14 j (grp u) v0 v1
    unfold kAt
    congr 1 <;> funext k e
    · show kp (ix2 k e) * cp (ix2 k e) + kpr (ix2 k e) * sp (ix2 k e) = _
      rw [ekp, ekpr, ecp, esp]
    · show kc (ix2 k e) * C (ix2 k e) + kcr (ix2 k e) * S (ix2 k e) = _
      rw [ekc, ekcr, eC, eS]
  · funext v
    idx_vars v
    refine (slice_rows _ _ j concatenates_S128x128_S512x128_S640x128_d0 hs v0 v1).trans ?_
    show _ = vAt x5 x9 j (grp u) v0 v1
    unfold vAt
    congr 1 <;> funext k e
    · exact eap k e
    · exact eac k e
  · funext v
    idx_vars v
    refine (slice_rows _ _ j concatenates_S128x128_S512x128_S640x128_d0 hs v0 v1).trans ?_
    show _ = vAt x6 x10 j (grp u) v0 v1
    unfold vAt
    congr 1 <;> funext k e
    · exact ebp k e
    · exact ebc k e

/-- One entry read out of a whole buffer. -/
theorem cut1 {a : Nat} {p : EltTy} (arg : Memref sig .tc .smem ⟨1, ![a]⟩ p) (ha : arg.IsWhole) (x : Vec Ideal ⟨1, ![a]⟩ p)
    (off : Fin 1 → Nat) (inb) (h) (R : Fin a) (hR : R.val = off 0) :
    View.readAt (Elt Ideal) arg.view (Rect.unit (s := ⟨1, ![a]⟩) off (⟨1, ![1]⟩ : Shape).size inb).toLoadRect (ha.unread x) (Shape.Idx.first h) = x (ix1 R) := by
  rw [View.readAt_eq_ld]
  exact (View.ld_unit_apply_of _ off _ inb (Shape.Idx.first h) (ix1 R) (fun a => by fin_cases a; exact hR)).trans (congrFun (ha.read_unread x) _)

/-- The number of block `j` of grid point `t`, as the kernel computes it. -/
theorem block_number (i t j : Nat) (h : i = t) (ht : t < 32) (hj : j < 4) :
    Scalar.addi (Scalar.muli (BitVec.ofNat 32 i) 4#32) (BitVec.ofNat 32 j) = BitVec.ofNat 32 (4 * t + j) := by
  subst h
  apply BitVec.eq_of_toNat_eq
  show (BitVec.ofNat 32 i * 4#32 + BitVec.ofNat 32 j).toNat = _
  simp only [BitVec.toNat_add, BitVec.toNat_mul, BitVec.toNat_ofNat]
  omega

set_option maxHeartbeats 8000000 in
/-- A grid point's block of the result, by pieces. -/
theorem block_apply (c : Dev nD) (t : Fin cfg0.N) (y : S512x512.Idx) :
    outsAt0 m c t y = tiled (pieceAt t.val (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t)) y := by
  have hi : (grid0.coords t 0).val = t.val := (by decide +kernel : ∀ t : Fin grid0.N, (grid0.coords t 0).val = t.val) t
  have ht : t.val < 32 := t.isLt
  unfold outsAt0 out0_A_15
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  generalize iblk m c 14 t = x14
  refine View.read_writes_apply_of_pieces (Val := Elt Ideal) _ _ (tiled (pieceAt t.val x0 x1 x2 x3 x4 x5 x6 x7 x8 x9 x10 x11 x12 x13 x14)) _ ?_ y
    (cover0_A_15 _ _ _ _ _ _ _ _ _ _ _ _ _ _ _ _ _ _ _ _ _ _ _ _ _ _ _ _ _ _ _ _ _ _ _ _ _ _ _ _ _ _ _ _ _ _ _ _ _ _)
  dsimp only [kernelRun0_A]
  intro p hp
  simp only [List.mem_cons, List.not_mem_nil, or_false] at hp
  rcases hp with rfl | rfl | rfl | rfl | rfl | rfl | rfl | rfl | rfl | rfl | rfl | rfl | rfl | rfl | rfl | rfl
  · dsimp only
    intro x
    refine Eq.trans ?_ (tiled_emb _ 3 3 _ _ rfl rfl x).symm
    refine (congrFun (show _ = piece k0_pay7 (seenAt _) _ _ _ _ _ _ from rfl) x).trans (congrFun ?_ x)
    refine (piece_eq (hq := slices_S512x128_o384_0_S128x128) (hs := slices_S640x128_o384_0_S256x128) t.val x0 x1 x2 x3 x4 x5 x6 x7 x8 x9 x10 x11 x12 x13 x14 3 3 (block_number _ _ _ hi ht (by decide))
      ?_ ?_ ?_ ?_ ?_ ?_ ?_ ?_ ?_ ?_ ?_ ?_ ?_ ?_ ?_ ?_)
    exacts [fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ rfl rfl, fun r e => cut _ _ _ _ _ _ r e _ _ rfl rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, cut1 _ _ _ _ _ _ _ rfl, cut1 _ _ _ _ _ _ _ rfl]
  · dsimp only
    intro x
    refine Eq.trans ?_ (tiled_emb _ 3 2 _ _ rfl rfl x).symm
    refine (congrFun (show _ = piece k0_pay7 (seenAt _) _ _ _ _ _ _ from rfl) x).trans (congrFun ?_ x)
    refine (piece_eq (hq := slices_S512x128_o384_0_S128x128) (hs := slices_S640x128_o384_0_S256x128) t.val x0 x1 x2 x3 x4 x5 x6 x7 x8 x9 x10 x11 x12 x13 x14 3 2 (block_number _ _ _ hi ht (by decide))
      ?_ ?_ ?_ ?_ ?_ ?_ ?_ ?_ ?_ ?_ ?_ ?_ ?_ ?_ ?_ ?_)
    exacts [fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ rfl rfl, fun r e => cut _ _ _ _ _ _ r e _ _ rfl rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, cut1 _ _ _ _ _ _ _ rfl, cut1 _ _ _ _ _ _ _ rfl]
  · dsimp only
    intro x
    refine Eq.trans ?_ (tiled_emb _ 2 3 _ _ rfl rfl x).symm
    refine (congrFun (show _ = piece k0_pay7 (seenAt _) _ _ _ _ _ _ from rfl) x).trans (congrFun ?_ x)
    refine (piece_eq (hq := slices_S512x128_o256_0_S128x128) (hs := slices_S640x128_o256_0_S256x128) t.val x0 x1 x2 x3 x4 x5 x6 x7 x8 x9 x10 x11 x12 x13 x14 2 3 (block_number _ _ _ hi ht (by decide))
      ?_ ?_ ?_ ?_ ?_ ?_ ?_ ?_ ?_ ?_ ?_ ?_ ?_ ?_ ?_ ?_)
    exacts [fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ rfl rfl, fun r e => cut _ _ _ _ _ _ r e _ _ rfl rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, cut1 _ _ _ _ _ _ _ rfl, cut1 _ _ _ _ _ _ _ rfl]
  · dsimp only
    intro x
    refine Eq.trans ?_ (tiled_emb _ 2 2 _ _ rfl rfl x).symm
    refine (congrFun (show _ = piece k0_pay7 (seenAt _) _ _ _ _ _ _ from rfl) x).trans (congrFun ?_ x)
    refine (piece_eq (hq := slices_S512x128_o256_0_S128x128) (hs := slices_S640x128_o256_0_S256x128) t.val x0 x1 x2 x3 x4 x5 x6 x7 x8 x9 x10 x11 x12 x13 x14 2 2 (block_number _ _ _ hi ht (by decide))
      ?_ ?_ ?_ ?_ ?_ ?_ ?_ ?_ ?_ ?_ ?_ ?_ ?_ ?_ ?_ ?_)
    exacts [fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ rfl rfl, fun r e => cut _ _ _ _ _ _ r e _ _ rfl rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, cut1 _ _ _ _ _ _ _ rfl, cut1 _ _ _ _ _ _ _ rfl]
  · dsimp only
    intro x
    refine Eq.trans ?_ (tiled_emb _ 1 3 _ _ rfl rfl x).symm
    refine (congrFun (show _ = piece k0_pay7 (seenAt _) _ _ _ _ _ _ from rfl) x).trans (congrFun ?_ x)
    refine (piece_eq (hq := slices_S512x128_o128_0_S128x128) (hs := slices_S640x128_o128_0_S256x128) t.val x0 x1 x2 x3 x4 x5 x6 x7 x8 x9 x10 x11 x12 x13 x14 1 3 (block_number _ _ _ hi ht (by decide))
      ?_ ?_ ?_ ?_ ?_ ?_ ?_ ?_ ?_ ?_ ?_ ?_ ?_ ?_ ?_ ?_)
    exacts [fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ rfl rfl, fun r e => cut _ _ _ _ _ _ r e _ _ rfl rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, cut1 _ _ _ _ _ _ _ rfl, cut1 _ _ _ _ _ _ _ rfl]
  · dsimp only
    intro x
    refine Eq.trans ?_ (tiled_emb _ 1 2 _ _ rfl rfl x).symm
    refine (congrFun (show _ = piece k0_pay7 (seenAt _) _ _ _ _ _ _ from rfl) x).trans (congrFun ?_ x)
    refine (piece_eq (hq := slices_S512x128_o128_0_S128x128) (hs := slices_S640x128_o128_0_S256x128) t.val x0 x1 x2 x3 x4 x5 x6 x7 x8 x9 x10 x11 x12 x13 x14 1 2 (block_number _ _ _ hi ht (by decide))
      ?_ ?_ ?_ ?_ ?_ ?_ ?_ ?_ ?_ ?_ ?_ ?_ ?_ ?_ ?_ ?_)
    exacts [fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ rfl rfl, fun r e => cut _ _ _ _ _ _ r e _ _ rfl rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, cut1 _ _ _ _ _ _ _ rfl, cut1 _ _ _ _ _ _ _ rfl]
  · dsimp only
    intro x
    refine Eq.trans ?_ (tiled_emb _ 0 3 _ _ rfl rfl x).symm
    refine (congrFun (show _ = piece k0_pay7 (seenAt _) _ _ _ _ _ _ from rfl) x).trans (congrFun ?_ x)
    refine (piece_eq (hq := slices_S512x128_o0_0_S128x128) (hs := slices_S640x128_o0_0_S256x128) t.val x0 x1 x2 x3 x4 x5 x6 x7 x8 x9 x10 x11 x12 x13 x14 0 3 (block_number _ _ _ hi ht (by decide))
      ?_ ?_ ?_ ?_ ?_ ?_ ?_ ?_ ?_ ?_ ?_ ?_ ?_ ?_ ?_ ?_)
    exacts [fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ rfl rfl, fun r e => cut _ _ _ _ _ _ r e _ _ rfl rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, cut1 _ _ _ _ _ _ _ rfl, cut1 _ _ _ _ _ _ _ rfl]
  · dsimp only
    intro x
    refine Eq.trans ?_ (tiled_emb _ 0 2 _ _ rfl rfl x).symm
    refine (congrFun (show _ = piece k0_pay7 (seenAt _) _ _ _ _ _ _ from rfl) x).trans (congrFun ?_ x)
    refine (piece_eq (hq := slices_S512x128_o0_0_S128x128) (hs := slices_S640x128_o0_0_S256x128) t.val x0 x1 x2 x3 x4 x5 x6 x7 x8 x9 x10 x11 x12 x13 x14 0 2 (block_number _ _ _ hi ht (by decide))
      ?_ ?_ ?_ ?_ ?_ ?_ ?_ ?_ ?_ ?_ ?_ ?_ ?_ ?_ ?_ ?_)
    exacts [fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ rfl rfl, fun r e => cut _ _ _ _ _ _ r e _ _ rfl rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, cut1 _ _ _ _ _ _ _ rfl, cut1 _ _ _ _ _ _ _ rfl]
  · dsimp only
    intro x
    refine Eq.trans ?_ (tiled_emb _ 3 1 _ _ rfl rfl x).symm
    refine (congrFun (show _ = piece k0_pay7 (seenAt _) _ _ _ _ _ _ from rfl) x).trans (congrFun ?_ x)
    refine (piece_eq (hq := slices_S512x128_o384_0_S128x128) (hs := slices_S640x128_o384_0_S256x128) t.val x0 x1 x2 x3 x4 x5 x6 x7 x8 x9 x10 x11 x12 x13 x14 3 1 (block_number _ _ _ hi ht (by decide))
      ?_ ?_ ?_ ?_ ?_ ?_ ?_ ?_ ?_ ?_ ?_ ?_ ?_ ?_ ?_ ?_)
    exacts [fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ rfl rfl, fun r e => cut _ _ _ _ _ _ r e _ _ rfl rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, cut1 _ _ _ _ _ _ _ rfl, cut1 _ _ _ _ _ _ _ rfl]
  · dsimp only
    intro x
    refine Eq.trans ?_ (tiled_emb _ 3 0 _ _ rfl rfl x).symm
    refine (congrFun (show _ = piece k0_pay7 (seenAt _) _ _ _ _ _ _ from rfl) x).trans (congrFun ?_ x)
    refine (piece_eq (hq := slices_S512x128_o384_0_S128x128) (hs := slices_S640x128_o384_0_S256x128) t.val x0 x1 x2 x3 x4 x5 x6 x7 x8 x9 x10 x11 x12 x13 x14 3 0 (block_number _ _ _ hi ht (by decide))
      ?_ ?_ ?_ ?_ ?_ ?_ ?_ ?_ ?_ ?_ ?_ ?_ ?_ ?_ ?_ ?_)
    exacts [fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ rfl rfl, fun r e => cut _ _ _ _ _ _ r e _ _ rfl rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, cut1 _ _ _ _ _ _ _ rfl, cut1 _ _ _ _ _ _ _ rfl]
  · dsimp only
    intro x
    refine Eq.trans ?_ (tiled_emb _ 2 1 _ _ rfl rfl x).symm
    refine (congrFun (show _ = piece k0_pay7 (seenAt _) _ _ _ _ _ _ from rfl) x).trans (congrFun ?_ x)
    refine (piece_eq (hq := slices_S512x128_o256_0_S128x128) (hs := slices_S640x128_o256_0_S256x128) t.val x0 x1 x2 x3 x4 x5 x6 x7 x8 x9 x10 x11 x12 x13 x14 2 1 (block_number _ _ _ hi ht (by decide))
      ?_ ?_ ?_ ?_ ?_ ?_ ?_ ?_ ?_ ?_ ?_ ?_ ?_ ?_ ?_ ?_)
    exacts [fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ rfl rfl, fun r e => cut _ _ _ _ _ _ r e _ _ rfl rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, cut1 _ _ _ _ _ _ _ rfl, cut1 _ _ _ _ _ _ _ rfl]
  · dsimp only
    intro x
    refine Eq.trans ?_ (tiled_emb _ 2 0 _ _ rfl rfl x).symm
    refine (congrFun (show _ = piece k0_pay7 (seenAt _) _ _ _ _ _ _ from rfl) x).trans (congrFun ?_ x)
    refine (piece_eq (hq := slices_S512x128_o256_0_S128x128) (hs := slices_S640x128_o256_0_S256x128) t.val x0 x1 x2 x3 x4 x5 x6 x7 x8 x9 x10 x11 x12 x13 x14 2 0 (block_number _ _ _ hi ht (by decide))
      ?_ ?_ ?_ ?_ ?_ ?_ ?_ ?_ ?_ ?_ ?_ ?_ ?_ ?_ ?_ ?_)
    exacts [fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ rfl rfl, fun r e => cut _ _ _ _ _ _ r e _ _ rfl rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, cut1 _ _ _ _ _ _ _ rfl, cut1 _ _ _ _ _ _ _ rfl]
  · dsimp only
    intro x
    refine Eq.trans ?_ (tiled_emb _ 1 1 _ _ rfl rfl x).symm
    refine (congrFun (show _ = piece k0_pay7 (seenAt _) _ _ _ _ _ _ from rfl) x).trans (congrFun ?_ x)
    refine (piece_eq (hq := slices_S512x128_o128_0_S128x128) (hs := slices_S640x128_o128_0_S256x128) t.val x0 x1 x2 x3 x4 x5 x6 x7 x8 x9 x10 x11 x12 x13 x14 1 1 (block_number _ _ _ hi ht (by decide))
      ?_ ?_ ?_ ?_ ?_ ?_ ?_ ?_ ?_ ?_ ?_ ?_ ?_ ?_ ?_ ?_)
    exacts [fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ rfl rfl, fun r e => cut _ _ _ _ _ _ r e _ _ rfl rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, cut1 _ _ _ _ _ _ _ rfl, cut1 _ _ _ _ _ _ _ rfl]
  · dsimp only
    intro x
    refine Eq.trans ?_ (tiled_emb _ 1 0 _ _ rfl rfl x).symm
    refine (congrFun (show _ = piece k0_pay7 (seenAt _) _ _ _ _ _ _ from rfl) x).trans (congrFun ?_ x)
    refine (piece_eq (hq := slices_S512x128_o128_0_S128x128) (hs := slices_S640x128_o128_0_S256x128) t.val x0 x1 x2 x3 x4 x5 x6 x7 x8 x9 x10 x11 x12 x13 x14 1 0 (block_number _ _ _ hi ht (by decide))
      ?_ ?_ ?_ ?_ ?_ ?_ ?_ ?_ ?_ ?_ ?_ ?_ ?_ ?_ ?_ ?_)
    exacts [fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ rfl rfl, fun r e => cut _ _ _ _ _ _ r e _ _ rfl rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, cut1 _ _ _ _ _ _ _ rfl, cut1 _ _ _ _ _ _ _ rfl]
  · dsimp only
    intro x
    refine Eq.trans ?_ (tiled_emb _ 0 1 _ _ rfl rfl x).symm
    refine (congrFun (show _ = piece k0_pay7 (seenAt _) _ _ _ _ _ _ from rfl) x).trans (congrFun ?_ x)
    refine (piece_eq (hq := slices_S512x128_o0_0_S128x128) (hs := slices_S640x128_o0_0_S256x128) t.val x0 x1 x2 x3 x4 x5 x6 x7 x8 x9 x10 x11 x12 x13 x14 0 1 (block_number _ _ _ hi ht (by decide))
      ?_ ?_ ?_ ?_ ?_ ?_ ?_ ?_ ?_ ?_ ?_ ?_ ?_ ?_ ?_ ?_)
    exacts [fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ rfl rfl, fun r e => cut _ _ _ _ _ _ r e _ _ rfl rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, cut1 _ _ _ _ _ _ _ rfl, cut1 _ _ _ _ _ _ _ rfl]
  · dsimp only
    intro x
    refine Eq.trans ?_ (tiled_emb _ 0 0 _ _ rfl rfl x).symm
    refine (congrFun (show _ = piece k0_pay7 (seenAt _) _ _ _ _ _ _ from rfl) x).trans (congrFun ?_ x)
    refine (piece_eq (hq := slices_S512x128_o0_0_S128x128) (hs := slices_S640x128_o0_0_S256x128) t.val x0 x1 x2 x3 x4 x5 x6 x7 x8 x9 x10 x11 x12 x13 x14 0 0 (block_number _ _ _ hi ht (by decide))
      ?_ ?_ ?_ ?_ ?_ ?_ ?_ ?_ ?_ ?_ ?_ ?_ ?_ ?_ ?_ ?_)
    exacts [fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ (Nat.zero_add _).symm (Nat.zero_add _).symm, fun r e => cut _ _ _ _ _ _ r e _ _ rfl rfl, fun r e => cut _ _ _ _ _ _ r e _ _ rfl rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, fun r e => cut _ _ _ _ _ _ r e _ _ (Nat.zero_add _).symm rfl, cut1 _ _ _ _ _ _ _ rfl, cut1 _ _ _ _ _ _ _ rfl]

end Cert.Swa
-- ==== Proof.Swa.Attend.lean ====
/- Sliding-window attention as a formula of its queries, keys, values, angles and sinks. -/
module

public import proofs.«01_k».proof.Proof.Swa.Spec

@[expose] public section

noncomputable section

namespace Cert.Swa

open Idealize.ShloMosaic

/-- Place `d` of head `n` among heads of 64. -/
def at64 {N : Nat} (n : Fin N) (d : Fin 64) : Fin (64 * N) := ⟨64 * n.val + d.val, by have := n.isLt; have := d.isLt; omega⟩

/-- A vector of 64 with its halves swapped and the half that comes first negated. -/
def swap (a : Fin 64 → EReal) (d : Fin 64) : EReal := if h : d.val < 32 then -(a ⟨d.val + 32, by omega⟩) else a ⟨d.val - 32, by omega⟩

/-- Turning by the swapped vector, with the angles repeated along any lanes whose place within 32 is the vector's. -/
theorem turn_eq (a : Fin 64 → EReal) (c s : Fin 32 → EReal) (d : Fin 64) (i : Fin 32) (hi : i.val = d.val % 32) :
    a d * c i + swap a d * s i = turn a c s d := by
  unfold turn swap
  split
  · rw [show i = ⟨d.val, by omega⟩ from Fin.ext (by show i.val = d.val; omega)]
  · rw [show i = ⟨d.val - 32, by omega⟩ from Fin.ext (by show i.val = d.val - 32; omega)]

/-- The keys' head that a query's head attends to. -/
def grp8 (n : Fin 8) : Fin 2 := ⟨n.val / 4, by omega⟩

section

variable (q : Fin 16384 → Fin 512 → EReal) (k v : Fin 16384 → Fin 128 → EReal) (c s : Fin 16384 → Fin 32 → EReal) (z : Fin 8 → EReal)

/-- The query of a position's head, turned by the position's angles. -/
def query (T : Fin 16384) (n : Fin 8) : Fin 64 → EReal := turn (fun d => q T (at64 n d)) (c T) (s T)

/-- The key of a position's head, turned by the position's angles. -/
def key (T : Fin 16384) (g : Fin 2) : Fin 64 → EReal := turn (fun d => k T (at64 g d)) (c T) (s T)

/-- The attention of row `r` of block `b`, at place `d` of head `n`. -/
def attend (b r : Fin 128) (n : Fin 8) (d : Fin 64) : EReal :=
  average (score b.val r (query q c s (at128 b r) n) fun p => key k c s (pos b p) (grp8 n)) (z n) fun p => v (pos b p) (at64 (grp8 n) d)

/-- The attention at a position and a column. -/
def attention (T : Fin 16384) (C : Fin 512) : EReal :=
  attend q k v c s z ⟨T.val / 128, by omega⟩ ⟨T.val % 128, by omega⟩ ⟨C.val / 64, by omega⟩ ⟨C.val % 64, by omega⟩

/-- The attention at a position by its block and row and a column by its head and place. -/
theorem attention_at (b r : Fin 128) (n : Fin 8) (d : Fin 64) (T : Fin 16384) (C : Fin 512) (hT : T.val = 128 * b.val + r.val)
    (hC : C.val = 64 * n.val + d.val) : attention q k v c s z T C = attend q k v c s z b r n d := by
  unfold attention
  congr 1
  · exact Fin.ext (by show T.val / 128 = b.val; omega)
  · exact Fin.ext (by show T.val % 128 = r.val; omega)
  · exact Fin.ext (by show C.val / 64 = n.val; omega)
  · exact Fin.ext (by show C.val % 64 = d.val; omega)

end

end Cert.Swa
-- ==== Proof.Swa.Host.lean ====
/- The columns that the sliding-window kernel is given, read at a row and a column. -/
module

public import proofs.«01_k».proof.Proof.Gen.Kernel5Ideal.Value
public import proofs.«01_k».proof.Proof.Swa.Attend
public import Idealize.ShloMosaic.Lib.Pipeline.Value
public import Idealize.ShloMosaic.Lib.ValueLayout
public import Idealize.ShloMosaic.Lib.StableHlo.Run

@[expose] public section

set_option maxRecDepth 16384

noncomputable section

namespace Cert.Swa

open Cert.Kernel5Ideal Cert.Kernel5Ideal.Gen Idealize.ShloMosaic Idealize.ShloMosaic.TcCoe Idealize.SL.Sem

variable (m : (ℓ : Loc nD τ sig) → Buf (Elt Ideal) ℓ)

/-- The angles' cosines or sines four times side by side. -/
def quad (x : FVec Ideal S16384x32 .f32) : FVec Ideal S16384x128 .f32 :=
  concatenate S16384x128 1 [⟨S16384x32, x⟩, ⟨S16384x32, x⟩, ⟨S16384x32, x⟩, ⟨S16384x32, x⟩] concatenates_S16384x32_S16384x32_S16384x32_S16384x32_S16384x128_d1

/-- Every query head's halves swapped, one negated. -/
def swapQ (x : FVec Ideal S16384x512 .f32) : FVec Ideal S16384x512 .f32 :=
  let y : FVec Ideal S16384x8x64 .f32 := shapeCast S16384x8x64 x shapeCasts_S16384x512_S16384x8x64
  shapeCast S16384x512 (concatenate S16384x8x64 2
    [⟨S16384x8x32, Host.negf (F := Ideal) (φ := .f32) (extractStridedSlice S16384x8x32 ![0, 0, 32] y slices_S16384x8x64_S16384x8x32_0_0_32)⟩,
     ⟨S16384x8x32, extractStridedSlice S16384x8x32 ![0, 0, 0] y slices_S16384x8x64_S16384x8x32_0_0_0⟩] concatenates_S16384x8x32_S16384x8x32_S16384x8x64_d2) shapeCasts_S16384x8x64_S16384x512

/-- Every key head's halves swapped, one negated. -/
def swapK (x : FVec Ideal S16384x128 .f32) : FVec Ideal S16384x128 .f32 :=
  let y : FVec Ideal S16384x2x64 .f32 := shapeCast S16384x2x64 x shapeCasts_S16384x128_S16384x2x64
  shapeCast S16384x128 (concatenate S16384x2x64 2
    [⟨S16384x2x32, Host.negf (F := Ideal) (φ := .f32) (extractStridedSlice S16384x2x32 ![0, 0, 32] y slices_S16384x2x64_S16384x2x32_0_0_32)⟩,
     ⟨S16384x2x32, extractStridedSlice S16384x2x32 ![0, 0, 0] y slices_S16384x2x64_S16384x2x32_0_0_0⟩] concatenates_S16384x2x32_S16384x2x32_S16384x2x64_d2) shapeCasts_S16384x2x64_S16384x128

/-- One key or value head as an array of its own heads, laid beside another of the same kind. -/
def pair (x y : FVec Ideal S16384x2x1x64 .f32) : FVec Ideal S16384x256 .f32 :=
  shapeCast S16384x256 (concatenate S16384x2x2x64 2 [⟨S16384x2x1x64, x⟩, ⟨S16384x2x1x64, y⟩] concatenates_S16384x2x1x64_S16384x2x1x64_S16384x2x2x64_d2)
    shapeCasts_S16384x2x2x64_S16384x256

/-- The two key or value heads apart. -/
def heads (x : FVec Ideal S16384x128 .f32) : FVec Ideal S16384x2x1x64 .f32 := shapeCast S16384x2x1x64 x shapeCasts_S16384x128_S16384x2x1x64

/-- Zeros of that shape. -/
def noHeads : FVec Ideal S16384x2x1x64 .f32 := broadcastInDim S16384x2x1x64 ![] bcast_S_S16384x2x1x64 (constant (F := Ideal) S_ .f32 0x00000000#32)

/-- The columns that the kernel's windows read. -/
def columns (q : FVec Ideal S16384x512 .f32) (k v : FVec Ideal S16384x128 .f32) : FVec Ideal S16384x9216 .bf16 :=
  truncf .bf16 (concatenate S16384x9216 1
    [⟨S16384x7168, broadcastInDim S16384x7168 ![] bcast_S_S16384x7168 (constant (F := Ideal) S_ .f32 0x00000000#32)⟩, ⟨S16384x512, q⟩, ⟨S16384x512, swapQ q⟩,
     ⟨S16384x256, pair (heads k) (heads k)⟩, ⟨S16384x256, pair (heads (swapK k)) (heads (swapK k))⟩,
     ⟨S16384x256, pair (heads v) noHeads⟩, ⟨S16384x256, pair noHeads (heads v)⟩]
    concatenates_S16384x7168_S16384x512_S16384x512_S16384x256_S16384x256_S16384x256_S16384x256_S16384x9216_d1) bitsLt_bf16_f32

/-- What the kernel's windows read is these columns. -/
theorem V_columns (c : Dev nD) : V m c main_v28
    = columns (m ((c : Thread nD τ).loc main_arg0)) (m ((c : Thread nD τ).loc main_arg1)) (m ((c : Thread nD τ).loc main_arg2)) := by
  simp only [V, hostOps0]
  after_results_simp
  rfl

/-- The cosines that the windows read. -/
theorem V_cos (c : Dev nD) : V m c main_v0 = quad (m ((c : Thread nD τ).loc main_arg3)) := by
  simp only [V, hostOps0]
  after_results_simp
  rfl

/-- The sines that the windows read. -/
theorem V_sin (c : Dev nD) : V m c main_v1 = quad (m ((c : Thread nD τ).loc main_arg4)) := by
  simp only [V, hostOps0]
  after_results_simp
  rfl

end Cert.Swa
-- ==== Proof.Swa.Cols.lean ====
/- The columns that the sliding-window kernel is given, read at a row, a head and a place in it. -/
module

public import proofs.«01_k».proof.Proof.Swa.Host

@[expose] public section

set_option maxRecDepth 16384

noncomputable section

namespace Cert.Swa

open Cert.Kernel5Ideal Cert.Kernel5Ideal.Gen Idealize.ShloMosaic Idealize.ShloMosaic.TcCoe Idealize.SL.Sem

/-- Heads laid side by side, read at a row, a head and a place. -/
theorem split3 {α : Type} {T H D N : Nat} (x : (⟨2, ![T, N]⟩ : Shape).Idx → α) (h : (⟨2, ![T, N]⟩ : Shape).ShapeCasts ⟨3, ![T, H, D]⟩)
    (t : Fin T) (n : Fin H) (d : Fin D) (c : Fin N) (hN : N = D * H) (hc : c.val = D * n.val + d.val) :
    shapeCast ⟨3, ![T, H, D]⟩ x h (ix3 t n d) = x (ix2 t c) :=
  shapeCast_apply x h _ _ (by
    rw [Shape.rowMajor_val_two, Shape.rowMajor_val_three]
    show t.val * N + c.val = (t.val * H + n.val) * D + d.val
    rw [hc, hN]; ring)

/-- Heads apart, read side by side at a row and a column. -/
theorem join3 {α : Type} {T H D N : Nat} (x : (⟨3, ![T, H, D]⟩ : Shape).Idx → α) (h : (⟨3, ![T, H, D]⟩ : Shape).ShapeCasts ⟨2, ![T, N]⟩)
    (t : Fin T) (n : Fin H) (d : Fin D) (c : Fin N) (hN : N = D * H) (hc : c.val = D * n.val + d.val) :
    shapeCast ⟨2, ![T, N]⟩ x h (ix2 t c) = x (ix3 t n d) :=
  shapeCast_apply x h _ _ (by
    rw [Shape.rowMajor_val_two, Shape.rowMajor_val_three]
    show (t.val * H + n.val) * D + d.val = t.val * N + c.val
    rw [hc, hN]; ring)

/-- The first half of a head, or the second. -/
theorem halves {H : Nat} (x y : (⟨3, ![16384, H, 32]⟩ : Shape).Idx → EReal) (hc) (t : Fin 16384) (n : Fin H) (d : Fin 64) :
    concatenate (⟨3, ![16384, H, 64]⟩ : Shape) 2 [⟨⟨3, ![16384, H, 32]⟩, x⟩, ⟨⟨3, ![16384, H, 32]⟩, y⟩] hc (ix3 t n d)
      = if h : d.val < 32 then x (ix3 t n ⟨d.val, h⟩) else y (ix3 t n ⟨d.val - 32, by omega⟩) := by
  split
  · rename_i h
    exact concatenate_pair_apply_left (t := ⟨3, ![16384, H, 64]⟩) (s₁ := ⟨3, ![16384, H, 32]⟩) (s₂ := ⟨3, ![16384, H, 32]⟩) 2 _ _ _ _ rfl (ix3 t n ⟨d.val, h⟩)
      (fun b => by fin_cases b <;> rfl)
  · rename_i h
    exact concatenate_pair_apply_right (t := ⟨3, ![16384, H, 64]⟩) (s₁ := ⟨3, ![16384, H, 32]⟩) (s₂ := ⟨3, ![16384, H, 32]⟩) 2 _ _ _ _ rfl rfl
      (ix3 t n ⟨d.val - 32, by omega⟩) (fun b hb => by fin_cases b; exacts [rfl, rfl, absurd rfl hb]) (by show d.val - 32 + 32 = d.val; omega)

/-- The swapped query heads at a row, a head and a place. -/
theorem swapQ_apply (x : FVec Ideal S16384x512 .f32) (T : Fin 16384) (n : Fin 8) (d : Fin 64) :
    swapQ x (ix2 T (at64 n d)) = swap (fun d => x (ix2 T (at64 n d))) d := by
  refine (join3 _ _ T n d _ rfl rfl).trans ((halves (H := 8) _ _ _ T n d).trans ?_)
  unfold swap
  split <;> rename_i h
  · refine congrArg Neg.neg ((extractStridedSlice_apply _ _ _ _ (ix3 T n (⟨d.val + 32, by omega⟩ : Fin 64)) (fun a => ?_)).trans (split3 _ _ T n _ _ rfl rfl))
    fin_cases a; exacts [(Nat.zero_add _).symm, (Nat.zero_add _).symm, Nat.add_comm _ _]
  · refine (extractStridedSlice_apply _ _ _ _ (ix3 T n (⟨d.val - 32, by omega⟩ : Fin 64)) (fun a => ?_)).trans (split3 _ _ T n _ _ rfl rfl)
    fin_cases a; exacts [(Nat.zero_add _).symm, (Nat.zero_add _).symm, (Nat.zero_add _).symm]

/-- The swapped key heads at a row, a head and a place. -/
theorem swapK_apply (x : FVec Ideal S16384x128 .f32) (T : Fin 16384) (n : Fin 2) (d : Fin 64) :
    swapK x (ix2 T (at64 n d)) = swap (fun d => x (ix2 T (at64 n d))) d := by
  refine (join3 _ _ T n d _ rfl rfl).trans ((halves (H := 2) _ _ _ T n d).trans ?_)
  unfold swap
  split <;> rename_i h
  · refine congrArg Neg.neg ((extractStridedSlice_apply _ _ _ _ (ix3 T n (⟨d.val + 32, by omega⟩ : Fin 64)) (fun a => ?_)).trans (split3 _ _ T n _ _ rfl rfl))
    fin_cases a; exacts [(Nat.zero_add _).symm, (Nat.zero_add _).symm, Nat.add_comm _ _]
  · refine (extractStridedSlice_apply _ _ _ _ (ix3 T n (⟨d.val - 32, by omega⟩ : Fin 64)) (fun a => ?_)).trans (split3 _ _ T n _ _ rfl rfl)
    fin_cases a; exacts [(Nat.zero_add _).symm, (Nat.zero_add _).symm, (Nat.zero_add _).symm]

/-- The heads apart at a row, a head and a place. -/
theorem heads_apply (x : FVec Ideal S16384x128 .f32) (T : Fin 16384) (g : Fin 2) (u : Fin 1) (d : Fin 64) :
    heads x (ix4 T g u d) = x (ix2 T (at64 g d)) :=
  shapeCast_apply x _ _ _ (by
    rw [Shape.rowMajor_val_two, Shape.rowMajor_val_four]
    have := u.isLt
    show T.val * 128 + (64 * g.val + d.val) = ((T.val * 2 + g.val) * 1 + u.val) * 64 + d.val
    omega)

/-- No heads. -/
theorem noHeads_apply (i : S16384x2x1x64.Idx) : noHeads i = 0 := Ideal.ofBits_zero_f32

/-- Two arrays of heads side by side, head by head. -/
theorem pair_apply (x y : FVec Ideal S16384x2x1x64 .f32) (T : Fin 16384) (g h : Fin 2) (d : Fin 64) :
    pair x y (ix2 T (at128 g (lane h d))) = if h = 0 then x (ix4 T g 0 d) else y (ix4 T g 0 d) := by
  refine (shapeCast_apply _ _ _ (ix4 T g h d) ?_).trans ?_
  · rw [Shape.rowMajor_val_two, Shape.rowMajor_val_four]
    show ((T.val * 2 + g.val) * 2 + h.val) * 64 + d.val = T.val * 256 + (128 * g.val + (64 * h.val + d.val))
    omega
  · split
    · rename_i hh
      subst hh
      exact concatenate_pair_apply_left (t := S16384x2x2x64) (s₁ := S16384x2x1x64) (s₂ := S16384x2x1x64) 2 _ _ _ _ rfl (ix4 T g 0 d) (fun b => by fin_cases b <;> rfl)
    · rename_i hh
      obtain rfl : h = 1 := by fin_cases h; exacts [absurd rfl hh, rfl]
      exact concatenate_pair_apply_right (t := S16384x2x2x64) (s₁ := S16384x2x1x64) (s₂ := S16384x2x1x64) 2 _ _ _ _ rfl rfl (ix4 T g 0 d)
        (fun b hb => by fin_cases b; exacts [rfl, rfl, absurd rfl hb, rfl]) rfl

/-- The angles at a row and a lane. -/
theorem quad_apply (x : FVec Ideal S16384x32 .f32) (T : Fin 16384) (e : Fin 128) : quad x (ix2 T e) = x (ix2 T ⟨e.val % 32, by omega⟩) :=
  concatenate_ofFn_apply (t := S16384x128) (s₁ := S16384x32) 1 (fun _ : Fin 4 => x) _ rfl 32 rfl (ix2 T e) ⟨e.val / 32, by omega⟩ rfl
    (ix2 T ⟨e.val % 32, by omega⟩) rfl (fun b hb => by fin_cases b; exacts [rfl, absurd rfl hb])

section Columns

variable (q : FVec Ideal S16384x512 .f32) (k v : FVec Ideal S16384x128 .f32) (T : Fin 16384)

/-- The arrays side by side in the kernel's columns. -/
def parts : List ((s : Shape) × (s.Idx → EReal)) :=
  [⟨S16384x7168, broadcastInDim S16384x7168 ![] bcast_S_S16384x7168 (constant (F := Ideal) S_ .f32 0x00000000#32)⟩, ⟨S16384x512, q⟩, ⟨S16384x512, swapQ q⟩,
    ⟨S16384x256, pair (heads k) (heads k)⟩, ⟨S16384x256, pair (heads (swapK k)) (heads (swapK k))⟩,
    ⟨S16384x256, pair (heads v) noHeads⟩, ⟨S16384x256, pair noHeads (heads v)⟩]

/-- Their columns make the whole width. -/
theorem parts_concatenate : Shape.Concatenates ((parts q k v).map (·.1)) S16384x9216 1 :=
  concatenates_S16384x7168_S16384x512_S16384x512_S16384x256_S16384x256_S16384x256_S16384x256_S16384x9216_d1

/-- The queries. -/
theorem columns_q (e : Fin 512) (C : Fin 9216) (hC : 7168 + e.val = C.val) : columns q k v (ix2 T C) = q (ix2 T e) :=
  concatenate_apply_piece (t := S16384x9216) 1 (parts q k v) (parts_concatenate q k v) (ix2 T C) 1 (by simp [parts]) S16384x512 q rfl rfl 7168 rfl (ix2 T e)
    (fun b hb => by fin_cases b; exacts [rfl, absurd rfl hb]) hC

/-- The swapped queries. -/
theorem columns_qr (e : Fin 512) (C : Fin 9216) (hC : 7680 + e.val = C.val) : columns q k v (ix2 T C) = swapQ q (ix2 T e) :=
  concatenate_apply_piece (t := S16384x9216) 1 (parts q k v) (parts_concatenate q k v) (ix2 T C) 2 (by simp [parts]) S16384x512 (swapQ q) rfl rfl 7680 rfl (ix2 T e)
    (fun b hb => by fin_cases b; exacts [rfl, absurd rfl hb]) hC

/-- The keys. -/
theorem columns_k (e : Fin 256) (C : Fin 9216) (hC : 8192 + e.val = C.val) : columns q k v (ix2 T C) = pair (heads k) (heads k) (ix2 T e) :=
  concatenate_apply_piece (t := S16384x9216) 1 (parts q k v) (parts_concatenate q k v) (ix2 T C) 3 (by simp [parts]) S16384x256 (pair (heads k) (heads k)) rfl rfl 8192 rfl (ix2 T e)
    (fun b hb => by fin_cases b; exacts [rfl, absurd rfl hb]) hC

/-- The swapped keys. -/
theorem columns_kr (e : Fin 256) (C : Fin 9216) (hC : 8448 + e.val = C.val) :
    columns q k v (ix2 T C) = pair (heads (swapK k)) (heads (swapK k)) (ix2 T e) :=
  concatenate_apply_piece (t := S16384x9216) 1 (parts q k v) (parts_concatenate q k v) (ix2 T C) 4 (by simp [parts]) S16384x256 (pair (heads (swapK k)) (heads (swapK k))) rfl rfl 8448 rfl (ix2 T e)
    (fun b hb => by fin_cases b; exacts [rfl, absurd rfl hb]) hC

/-- The values in the first halves. -/
theorem columns_lo (e : Fin 256) (C : Fin 9216) (hC : 8704 + e.val = C.val) : columns q k v (ix2 T C) = pair (heads v) noHeads (ix2 T e) :=
  concatenate_apply_piece (t := S16384x9216) 1 (parts q k v) (parts_concatenate q k v) (ix2 T C) 5 (by simp [parts]) S16384x256 (pair (heads v) noHeads) rfl rfl 8704 rfl (ix2 T e)
    (fun b hb => by fin_cases b; exacts [rfl, absurd rfl hb]) hC

/-- The values in the second halves. -/
theorem columns_hi (e : Fin 256) (C : Fin 9216) (hC : 8960 + e.val = C.val) : columns q k v (ix2 T C) = pair noHeads (heads v) (ix2 T e) :=
  concatenate_apply_piece (t := S16384x9216) 1 (parts q k v) (parts_concatenate q k v) (ix2 T C) 6 (by simp [parts]) S16384x256 (pair noHeads (heads v)) rfl rfl 8960 rfl (ix2 T e)
    (fun b hb => by fin_cases b; exacts [rfl, absurd rfl hb]) hC

end Columns

end Cert.Swa
-- ==== Proof.Swa.Windows.lean ====
/- What the sliding-window kernel's windows hold at a grid point, by places of the whole arrays. -/
module

public import proofs.«01_k».proof.Proof.Swa.Body
public import proofs.«01_k».proof.Proof.Swa.Cols
public import Idealize.ShloMosaic.Lib.Pipeline.ValueKit
public import Idealize.ShloMosaic.Lib.Pointwise

@[expose] public section

set_option maxRecDepth 16384

noncomputable section

namespace Cert.Swa

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- Every window's block index at a grid point. -/
theorem idx : ∀ t : Fin cfg0.N, win0_0.index t = ![0] ∧ win0_1.index t = ![t.val, 14] ∧ win0_2.index t = ![t.val, 15]
    ∧ win0_3.index t = ![t.val, 32] ∧ win0_4.index t = ![t.val, 33] ∧ win0_5.index t = ![t.val, 34] ∧ win0_6.index t = ![t.val, 35]
    ∧ win0_7.index t = ![4 * t.val - 1, 32] ∧ win0_8.index t = ![4 * t.val - 1, 33] ∧ win0_9.index t = ![4 * t.val - 1, 34] ∧ win0_10.index t = ![4 * t.val - 1, 35]
    ∧ win0_11.index t = ![t.val, 0] ∧ win0_12.index t = ![t.val, 0] ∧ win0_13.index t = ![4 * t.val - 1, 0] ∧ win0_14.index t = ![4 * t.val - 1, 0]
    ∧ win0_15.index t = ![t.val, 0] :=
  (by decide +kernel : ∀ t : Fin grid0.N, _)

/-- Row `r` of the grid point's 512 rows. -/
def here (t : Fin cfg0.N) (r : Fin 512) : Fin 16384 := ⟨512 * t.val + r.val, by have : t.val < 32 := t.isLt; omega⟩

/-- Row `r` of the 128 rows before them; of the first 128 rows at the first grid point. -/
def before (t : Fin cfg0.N) (r : Fin 128) : Fin 16384 := ⟨128 * (4 * t.val - 1) + r.val, by have : t.val < 32 := t.isLt; omega⟩

section Blocks

variable (c : Dev nD) (t : Fin cfg0.N)

/-- Window 0 by places of the array it reads. -/
theorem blk0 (n : Fin 8) : iblk m c 0 t (ix1 n) = m ((c : Thread nD τ).loc main_arg5) (ix1 n) := by
  blk_point [iblk, V, idx t]

/-- Window 1 by places of the array it reads. -/
theorem blk1 (r : Fin 512) (e : Fin 512) : iblk m c 1 t (ix2 r e) = V m c main_v28 (ix2 (here t r) ⟨7168 + e.val, by omega⟩) := by
  blk_point [iblk, idx t, here]

/-- Window 2 by places of the array it reads. -/
theorem blk2 (r : Fin 512) (e : Fin 512) : iblk m c 2 t (ix2 r e) = V m c main_v28 (ix2 (here t r) ⟨7680 + e.val, by omega⟩) := by
  blk_point [iblk, idx t, here]

/-- Window 3 by places of the array it reads. -/
theorem blk3 (r : Fin 512) (e : Fin 256) : iblk m c 3 t (ix2 r e) = V m c main_v28 (ix2 (here t r) ⟨8192 + e.val, by omega⟩) := by
  blk_point [iblk, idx t, here]

/-- Window 4 by places of the array it reads. -/
theorem blk4 (r : Fin 512) (e : Fin 256) : iblk m c 4 t (ix2 r e) = V m c main_v28 (ix2 (here t r) ⟨8448 + e.val, by omega⟩) := by
  blk_point [iblk, idx t, here]

/-- Window 5 by places of the array it reads. -/
theorem blk5 (r : Fin 512) (e : Fin 256) : iblk m c 5 t (ix2 r e) = V m c main_v28 (ix2 (here t r) ⟨8704 + e.val, by omega⟩) := by
  blk_point [iblk, idx t, here]

/-- Window 6 by places of the array it reads. -/
theorem blk6 (r : Fin 512) (e : Fin 256) : iblk m c 6 t (ix2 r e) = V m c main_v28 (ix2 (here t r) ⟨8960 + e.val, by omega⟩) := by
  blk_point [iblk, idx t, here]

/-- Window 7 by places of the array it reads. -/
theorem blk7 (r : Fin 128) (e : Fin 256) : iblk m c 7 t (ix2 r e) = V m c main_v28 (ix2 (before t r) ⟨8192 + e.val, by omega⟩) := by
  blk_point [iblk, idx t, before]

/-- Window 8 by places of the array it reads. -/
theorem blk8 (r : Fin 128) (e : Fin 256) : iblk m c 8 t (ix2 r e) = V m c main_v28 (ix2 (before t r) ⟨8448 + e.val, by omega⟩) := by
  blk_point [iblk, idx t, before]

/-- Window 9 by places of the array it reads. -/
theorem blk9 (r : Fin 128) (e : Fin 256) : iblk m c 9 t (ix2 r e) = V m c main_v28 (ix2 (before t r) ⟨8704 + e.val, by omega⟩) := by
  blk_point [iblk, idx t, before]

/-- Window 10 by places of the array it reads. -/
theorem blk10 (r : Fin 128) (e : Fin 256) : iblk m c 10 t (ix2 r e) = V m c main_v28 (ix2 (before t r) ⟨8960 + e.val, by omega⟩) := by
  blk_point [iblk, idx t, before]

/-- Window 11 by places of the array it reads. -/
theorem blk11 (r : Fin 512) (e : Fin 128) : iblk m c 11 t (ix2 r e) = V m c main_v0 (ix2 (here t r) e) := by
  blk_point [iblk, idx t, here]

/-- Window 12 by places of the array it reads. -/
theorem blk12 (r : Fin 512) (e : Fin 128) : iblk m c 12 t (ix2 r e) = V m c main_v1 (ix2 (here t r) e) := by
  blk_point [iblk, idx t, here]

/-- Window 13 by places of the array it reads. -/
theorem blk13 (r : Fin 128) (e : Fin 128) : iblk m c 13 t (ix2 r e) = V m c main_v0 (ix2 (before t r) e) := by
  blk_point [iblk, idx t, before]

/-- Window 14 by places of the array it reads. -/
theorem blk14 (r : Fin 128) (e : Fin 128) : iblk m c 14 t (ix2 r e) = V m c main_v1 (ix2 (before t r) e) := by
  blk_point [iblk, idx t, before]

/-- The queries by position and column. -/
abbrev inQ (T : Fin 16384) (C : Fin 512) : EReal := (m ((c : Thread nD τ).loc main_arg0) : Vec Ideal S16384x512 .f32) (ix2 T C)

/-- The keys by position and column. -/
abbrev inK (T : Fin 16384) (C : Fin 128) : EReal := (m ((c : Thread nD τ).loc main_arg1) : Vec Ideal S16384x128 .f32) (ix2 T C)

/-- The values by position and column. -/
abbrev inV (T : Fin 16384) (C : Fin 128) : EReal := (m ((c : Thread nD τ).loc main_arg2) : Vec Ideal S16384x128 .f32) (ix2 T C)

/-- The angles' cosines by position. -/
abbrev inC (T : Fin 16384) (e : Fin 32) : EReal := (m ((c : Thread nD τ).loc main_arg3) : Vec Ideal S16384x32 .f32) (ix2 T e)

/-- The angles' sines by position. -/
abbrev inS (T : Fin 16384) (e : Fin 32) : EReal := (m ((c : Thread nD τ).loc main_arg4) : Vec Ideal S16384x32 .f32) (ix2 T e)

/-- The sinks by head. -/
abbrev inZ (n : Fin 8) : EReal := (m ((c : Thread nD τ).loc main_arg5) : Vec Ideal S8 .f32) (ix1 n)

/-- Window 1 by places of the array that was passed in. -/
theorem win1 (r : Fin 512) (e : Fin 512) : iblk m c 1 t (ix2 r e) = inQ m c (here t r) e :=
  (blk1 m c t r e).trans ((congrFun (V_columns m c) _).trans (columns_q _ _ _ _ e _ rfl))

/-- Window 2 by places of the array that was passed in. -/
theorem win2 (r : Fin 512) (n : Fin 8) (d : Fin 64) : iblk m c 2 t (ix2 r (at64 n d)) = swap (fun d => inQ m c (here t r) (at64 n d)) d :=
  (blk2 m c t r _).trans ((congrFun (V_columns m c) _).trans ((columns_qr _ _ _ _ (at64 n d) _ rfl).trans (swapQ_apply _ _ _ _)))

/-- Window 3 by places of the array that was passed in. -/
theorem win3 (r : Fin 512) (g h : Fin 2) (d : Fin 64) : iblk m c 3 t (ix2 r (at128 g (lane h d))) = inK m c (here t r) (at64 g d) :=
  (blk3 m c t r _).trans ((congrFun (V_columns m c) _).trans ((columns_k _ _ _ _ (at128 g (lane h d)) _ rfl).trans
    ((pair_apply _ _ _ g h d).trans ((ite_self _).trans (heads_apply _ _ _ _ _)))))

/-- Window 4 by places of the array that was passed in. -/
theorem win4 (r : Fin 512) (g h : Fin 2) (d : Fin 64) :
    iblk m c 4 t (ix2 r (at128 g (lane h d))) = swap (fun d => inK m c (here t r) (at64 g d)) d :=
  (blk4 m c t r _).trans ((congrFun (V_columns m c) _).trans ((columns_kr _ _ _ _ (at128 g (lane h d)) _ rfl).trans
    ((pair_apply _ _ _ g h d).trans ((ite_self _).trans ((heads_apply _ _ _ _ _).trans (swapK_apply _ _ _ _))))))

/-- Window 5 by places of the array that was passed in. -/
theorem win5 (r : Fin 512) (g h : Fin 2) (d : Fin 64) :
    iblk m c 5 t (ix2 r (at128 g (lane h d))) = if h = 0 then inV m c (here t r) (at64 g d) else 0 :=
  (blk5 m c t r _).trans ((congrFun (V_columns m c) _).trans ((columns_lo _ _ _ _ (at128 g (lane h d)) _ rfl).trans
    ((pair_apply _ _ _ g h d).trans (by rw [heads_apply, noHeads_apply]))))

/-- Window 6 by places of the array that was passed in. -/
theorem win6 (r : Fin 512) (g h : Fin 2) (d : Fin 64) :
    iblk m c 6 t (ix2 r (at128 g (lane h d))) = if h = 0 then 0 else inV m c (here t r) (at64 g d) :=
  (blk6 m c t r _).trans ((congrFun (V_columns m c) _).trans ((columns_hi _ _ _ _ (at128 g (lane h d)) _ rfl).trans
    ((pair_apply _ _ _ g h d).trans (by rw [heads_apply, noHeads_apply]))))

/-- Window 7 by places of the array that was passed in. -/
theorem win7 (r : Fin 128) (g h : Fin 2) (d : Fin 64) : iblk m c 7 t (ix2 r (at128 g (lane h d))) = inK m c (before t r) (at64 g d) :=
  (blk7 m c t r _).trans ((congrFun (V_columns m c) _).trans ((columns_k _ _ _ _ (at128 g (lane h d)) _ rfl).trans
    ((pair_apply _ _ _ g h d).trans ((ite_self _).trans (heads_apply _ _ _ _ _)))))

/-- Window 8 by places of the array that was passed in. -/
theorem win8 (r : Fin 128) (g h : Fin 2) (d : Fin 64) :
    iblk m c 8 t (ix2 r (at128 g (lane h d))) = swap (fun d => inK m c (before t r) (at64 g d)) d :=
  (blk8 m c t r _).trans ((congrFun (V_columns m c) _).trans ((columns_kr _ _ _ _ (at128 g (lane h d)) _ rfl).trans
    ((pair_apply _ _ _ g h d).trans ((ite_self _).trans ((heads_apply _ _ _ _ _).trans (swapK_apply _ _ _ _))))))

/-- Window 9 by places of the array that was passed in. -/
theorem win9 (r : Fin 128) (g h : Fin 2) (d : Fin 64) :
    iblk m c 9 t (ix2 r (at128 g (lane h d))) = if h = 0 then inV m c (before t r) (at64 g d) else 0 :=
  (blk9 m c t r _).trans ((congrFun (V_columns m c) _).trans ((columns_lo _ _ _ _ (at128 g (lane h d)) _ rfl).trans
    ((pair_apply _ _ _ g h d).trans (by rw [heads_apply, noHeads_apply]))))

/-- Window 10 by places of the array that was passed in. -/
theorem win10 (r : Fin 128) (g h : Fin 2) (d : Fin 64) :
    iblk m c 10 t (ix2 r (at128 g (lane h d))) = if h = 0 then 0 else inV m c (before t r) (at64 g d) :=
  (blk10 m c t r _).trans ((congrFun (V_columns m c) _).trans ((columns_hi _ _ _ _ (at128 g (lane h d)) _ rfl).trans
    ((pair_apply _ _ _ g h d).trans (by rw [heads_apply, noHeads_apply]))))

/-- Window 11 by places of the array that was passed in. -/
theorem win11 (r : Fin 512) (e : Fin 128) : iblk m c 11 t (ix2 r e) = inC m c (here t r) ⟨e.val % 32, by omega⟩ :=
  (blk11 m c t r e).trans ((congrFun (V_cos m c) _).trans (quad_apply _ _ _))

/-- Window 12 by places of the array that was passed in. -/
theorem win12 (r : Fin 512) (e : Fin 128) : iblk m c 12 t (ix2 r e) = inS m c (here t r) ⟨e.val % 32, by omega⟩ :=
  (blk12 m c t r e).trans ((congrFun (V_sin m c) _).trans (quad_apply _ _ _))

/-- Window 13 by places of the array that was passed in. -/
theorem win13 (r : Fin 128) (e : Fin 128) : iblk m c 13 t (ix2 r e) = inC m c (before t r) ⟨e.val % 32, by omega⟩ :=
  (blk13 m c t r e).trans ((congrFun (V_cos m c) _).trans (quad_apply _ _ _))

/-- Window 14 by places of the array that was passed in. -/
theorem win14 (r : Fin 128) (e : Fin 128) : iblk m c 14 t (ix2 r e) = inS m c (before t r) ⟨e.val % 32, by omega⟩ :=
  (blk14 m c t r e).trans ((congrFun (V_sin m c) _).trans (quad_apply _ _ _))

end Blocks

end Cert.Swa
-- ==== Proof.Swa.Point.lean ====
/- A grid point's block of the sliding-window attention is the attention at the place the block sits. -/
module

public import proofs.«01_k».proof.Proof.Swa.Windows

@[expose] public section

set_option maxRecDepth 16384

noncomputable section

namespace Cert.Swa

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The block of the sequence that block `j` of a grid point is. -/
def blockOf (t : Fin cfg0.N) (j : Fin 4) : Fin 128 := ⟨4 * t.val + j.val, by have : t.val < 32 := t.isLt; omega⟩

/-- The query head in half `h` of column tile `u`. -/
def headOf (u : Fin 4) (h : Fin 2) : Fin 8 := ⟨2 * u.val + h.val, by omega⟩

/-- A window's rows are the sequence's positions. -/
theorem rows_pos {n : Nat} {prev : Fin 128 → Fin n → EReal} {cur : Fin 512 → Fin n → EReal} (t : Fin cfg0.N) (j : Fin 4) (e : Fin n) (G : Fin 16384 → EReal)
    (hp : ∀ r, prev r e = G (before t r)) (hc : ∀ r, cur r e = G (here t r)) (k : Fin 256) : rows prev cur j k e = G (pos (blockOf t j) k) := by
  have : t.val < 32 := t.isLt
  unfold rows
  split
  · rename_i h
    refine (hp _).trans (congrArg G (Fin.ext ?_))
    show 128 * (4 * t.val - 1) + (128 * j.val + k.val) = if 4 * t.val + j.val = 0 ∧ k.val < 128 then k.val else 128 * (4 * t.val + j.val) + k.val - 128
    split <;> omega
  · rename_i h
    refine (hc _).trans (congrArg G (Fin.ext ?_))
    show 512 * t.val + (128 * j.val + k.val - 128) = if 4 * t.val + j.val = 0 ∧ k.val < 128 then k.val else 128 * (4 * t.val + j.val) + k.val - 128
    split <;> omega

section

variable (c : Dev nD) (t : Fin cfg0.N)

/-- The queries of a tile. -/
theorem q_tile (j u : Fin 4) (r : Fin 128) (h : Fin 2) (d : Fin 64) :
    qAt (iblk m c 1 t) (iblk m c 2 t) (iblk m c 11 t) (iblk m c 12 t) j u r (lane h d)
      = query (inQ m c) (inC m c) (inS m c) (at128 (blockOf t j) r) (headOf u h) d := by
  have e : (at128 u (lane h d) : Fin 512) = at64 (headOf u h) d :=
    Fin.ext (by show 128 * u.val + (64 * h.val + d.val) = 64 * (2 * u.val + h.val) + d.val; omega)
  have eT : here t (at128 j r) = at128 (blockOf t j) r :=
    Fin.ext (by show 512 * t.val + (128 * j.val + r.val) = 128 * (4 * t.val + j.val) + r.val; omega)
  unfold qAt
  rw [e, win1, win2, win11, win12, eT]
  exact turn_eq (fun d => inQ m c (at128 (blockOf t j) r) (at64 (headOf u h) d)) _ _ d _ (by show (64 * h.val + d.val) % 32 = d.val % 32; omega)

/-- The keys of a tile. -/
theorem k_tile (j : Fin 4) (g : Fin 2) (k : Fin 256) (h : Fin 2) (d : Fin 64) :
    kAt (iblk m c 3 t) (iblk m c 4 t) (iblk m c 7 t) (iblk m c 8 t) (iblk m c 11 t) (iblk m c 12 t) (iblk m c 13 t) (iblk m c 14 t) j g k (lane h d)
      = key (inK m c) (inC m c) (inS m c) (pos (blockOf t j) k) g d := by
  unfold kAt
  refine rows_pos t j (lane h d) (fun T => key (inK m c) (inC m c) (inS m c) T g d) (fun r => ?_) (fun r => ?_) k
  · beta_reduce
    rw [win7, win8, win13, win14]
    exact turn_eq (fun d => inK m c (before t r) (at64 g d)) _ _ d _ (by show (64 * h.val + d.val) % 32 = d.val % 32; omega)
  · beta_reduce
    rw [win3, win4, win11, win12]
    exact turn_eq (fun d => inK m c (here t r) (at64 g d)) _ _ d _ (by show (64 * h.val + d.val) % 32 = d.val % 32; omega)

/-- The values of a tile's first half. -/
theorem lo_tile (j : Fin 4) (g : Fin 2) (k : Fin 256) (h : Fin 2) (d : Fin 64) :
    vAt (iblk m c 5 t) (iblk m c 9 t) j g k (lane h d) = if h = 0 then inV m c (pos (blockOf t j) k) (at64 g d) else 0 := by
  unfold vAt
  exact rows_pos t j (lane h d) (fun T => if h = 0 then inV m c T (at64 g d) else 0) (fun r => win9 m c t r g h d) (fun r => win5 m c t r g h d) k

/-- The values of a tile's second half. -/
theorem hi_tile (j : Fin 4) (g : Fin 2) (k : Fin 256) (h : Fin 2) (d : Fin 64) :
    vAt (iblk m c 6 t) (iblk m c 10 t) j g k (lane h d) = if h = 0 then 0 else inV m c (pos (blockOf t j) k) (at64 g d) := by
  unfold vAt
  exact rows_pos t j (lane h d) (fun T => if h = 0 then 0 else inV m c T (at64 g d)) (fun r => win10 m c t r g h d) (fun r => win6 m c t r g h d) k

/-- The inputs that enter the scores are real numbers. -/
structure Reals : Prop where
  queries : ∀ T C, IsReal (inQ m c T C)
  keys : ∀ T C, IsReal (inK m c T C)
  cosines : ∀ T e, IsReal (inC m c T e)
  sines : ∀ T e, IsReal (inS m c T e)
  sinks : ∀ n, IsReal (inZ m c n)

/-- A tile's elements are the attention of its block, rows and heads. -/
theorem tile_value (H : Reals m c) (j u : Fin 4) (r : Fin 128) (h : Fin 2) (d : Fin 64) :
    pieceAt t.val (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (iblk m c 12 t) (iblk m c 13 t) (iblk m c 14 t) j u (ix2 r (lane h d))
      = attend (inQ m c) (inK m c) (inV m c) (inC m c) (inS m c) (inZ m c) (blockOf t j) r (headOf u h) d := by
  have eg : grp8 (headOf u h) = grp u := Fin.ext (by show (2 * u.val + h.val) / 4 = u.val / 2; omega)
  have rT : ∀ T n d, IsReal (query (inQ m c) (inC m c) (inS m c) T n d) := fun T n d => turn_real (fun d => H.queries _ _) (H.cosines T) (H.sines T) d
  have rK : ∀ T g d, IsReal (key (inK m c) (inC m c) (inS m c) T g d) := fun T g d => turn_real (fun d => H.keys _ _) (H.cosines T) (H.sines T) d
  refine (piece_apply (b := 4 * t.val + j.val) (Kt := fun k => key (inK m c) (inC m c) (inS m c) (pos (blockOf t j) k) (grp u))
    (Vt := fun k d => inV m c (pos (blockOf t j) k) (at64 (grp u) d)) (fun k => seenAt_apply (blockOf t j).isLt r k)
    (fun k h d => k_tile m c t j (grp u) k h d) (fun k h d => lo_tile m c t j (grp u) k h d) (fun k h d => hi_tile m c t j (grp u) k h d)
    (fun e => ?_) (fun k d => rK _ _ _) ?_ ?_ h d).trans ?_
  · have he : e = lane ⟨e.val / 64, by omega⟩ ⟨e.val % 64, by omega⟩ := Fin.ext (by show e.val = 64 * (e.val / 64) + e.val % 64; omega)
    rw [he]
    exact (congrArg IsReal (q_tile m c t j u r _ _)).mpr (rT _ _ _)
  · rw [blk0]; exact H.sinks _
  · rw [blk0]; exact H.sinks _
  · unfold attend
    rw [eg, blk0, blk0]
    have ez : (if h = 0 then inZ m c ⟨2 * u.val, by omega⟩ else inZ m c ⟨2 * u.val + 1, by omega⟩) = inZ m c (headOf u h) := by
      fin_cases h; exacts [rfl, rfl]
    have eq : (fun d => arr (qAt (iblk m c 1 t) (iblk m c 2 t) (iblk m c 11 t) (iblk m c 12 t) j u) (ix2 r (lane h d)))
        = query (inQ m c) (inC m c) (inS m c) (at128 (blockOf t j) r) (headOf u h) := funext fun d => q_tile m c t j u r h d
    rw [eq]
    exact congrArg (fun z => average _ z _) ez

/-- A grid point's block at a row and a column. -/
theorem block_value (H : Reals m c) (y : S512x512.Idx) (T : Fin 16384) (C : Fin 512) (hT : T.val = 512 * t.val + (y 0).val) (hC : C.val = (y 1).val) :
    outsAt0 m c t y = attention (inQ m c) (inK m c) (inV m c) (inC m c) (inS m c) (inZ m c) T C := by
  have h0 : (y 0).val < 512 := (y 0).isLt
  have h1 : (y 1).val < 512 := (y 1).isLt
  refine (block_apply m c t y).trans ((tiled_apply _ ⟨(y 0).val / 128, by omega⟩ ⟨(y 1).val / 128, by omega⟩ y
    (ix2 ⟨(y 0).val % 128, by omega⟩ (lane ⟨(y 1).val % 128 / 64, by omega⟩ ⟨(y 1).val % 64, by omega⟩)) ?_ ?_).trans ((tile_value m c t H _ _ _ _ _).trans
    (attention_at _ _ _ _ _ _ _ _ _ _ T C ?_ ?_).symm))
  · show (y 0).val = 128 * ((y 0).val / 128) + (y 0).val % 128; omega
  · show (y 1).val = 128 * ((y 1).val / 128) + (64 * ((y 1).val % 128 / 64) + (y 1).val % 64); omega
  · show T.val = 128 * (4 * t.val + (y 0).val / 128) + (y 0).val % 128; omega
  · show C.val = 64 * (2 * ((y 1).val / 128) + (y 1).val % 128 / 64) + (y 1).val % 64; omega

end

end Cert.Swa
-- ==== Proof.Swa.Ref.lean ====
/- The reference's sliding-window attention read at a position and a column. -/
module

public import proofs.«01_k».proof.Proof.Gen.Reference5Ideal.Read
public import proofs.«01_k».proof.Proof.Swa.Attend
public import Idealize.ShloMosaic.Lib.Pointwise
public import Idealize.ShloMosaic.Lib.KernelVsHost
public import Idealize.ShloMosaic.Lib.Pipeline.Value

@[expose] public section

set_option maxRecDepth 16384

noncomputable section

namespace Cert.Swa

open Cert.Reference5Ideal Cert.Reference5Ideal.Gen Cert.Reference5Ideal.Read Idealize.ShloMosaic Idealize.SL.Sem

variable (x0 : Vec Ideal S16384x512 .f32) (x1 x2 : Vec Ideal S16384x128 .f32) (x3 x4 : Vec Ideal S16384x32 .f32) (x5 : Vec Ideal S8 .f32)

/-- A turned query's first half. -/
theorem ref_q_lo (T : Fin 16384) (n : Fin 8) (e : Fin 32) : val_main_v9 (F := Ideal) x0 x3 x4 (ix3 T n e)
    = x0 (ix2 T (at64 n ⟨e.val, by omega⟩)) * x3 (ix2 T e) - x0 (ix2 T (at64 n ⟨e.val + 32, by omega⟩)) * x4 (ix2 T e) := by
  have i0 : idx_main_v0 (idx_main_v1 (ix3 T n e)) = ix2 T (at64 n ⟨e.val, by omega⟩) := by
    funext a; apply Fin.ext; fin_cases a
    · show ((T.val * 8 + n.val) * 64 + e.val) / 512 = T.val; omega
    · show ((T.val * 8 + n.val) * 64 + e.val) % 512 = 64 * n.val + e.val; omega
  have i1 : idx_main_v0 (idx_main_v2 (ix3 T n e)) = ix2 T (at64 n ⟨e.val + 32, by omega⟩) := by
    funext a; apply Fin.ext; fin_cases a
    · show ((T.val * 8 + n.val) * 64 + (32 + e.val)) / 512 = T.val; omega
    · show ((T.val * 8 + n.val) * 64 + (32 + e.val)) % 512 = 64 * n.val + (e.val + 32); omega
  have i2 : idx_main_v3 (idx_main_v5 (ix3 T n e)) = ix2 T e := by funext a; fin_cases a <;> rfl
  have i3 : idx_main_v4 (idx_main_v7 (ix3 T n e)) = ix2 T e := by funext a; fin_cases a <;> rfl
  rw [val_main_v9_apply, val_main_v6_apply, val_main_v8_apply, val_main_v1_apply, val_main_v2_apply, val_main_v0_apply, val_main_v0_apply,
    val_main_v5_apply, val_main_v7_apply, val_main_v3_apply, val_main_v4_apply, i0, i1, i2, i3]
  rfl

/-- A turned query's second half. -/
theorem ref_q_hi (T : Fin 16384) (n : Fin 8) (e : Fin 32) : val_main_v14 (F := Ideal) x0 x3 x4 (ix3 T n e)
    = x0 (ix2 T (at64 n ⟨e.val + 32, by omega⟩)) * x3 (ix2 T e) + x0 (ix2 T (at64 n ⟨e.val, by omega⟩)) * x4 (ix2 T e) := by
  have i0 : idx_main_v0 (idx_main_v1 (ix3 T n e)) = ix2 T (at64 n ⟨e.val, by omega⟩) := by
    funext a; apply Fin.ext; fin_cases a
    · show ((T.val * 8 + n.val) * 64 + e.val) / 512 = T.val; omega
    · show ((T.val * 8 + n.val) * 64 + e.val) % 512 = 64 * n.val + e.val; omega
  have i1 : idx_main_v0 (idx_main_v2 (ix3 T n e)) = ix2 T (at64 n ⟨e.val + 32, by omega⟩) := by
    funext a; apply Fin.ext; fin_cases a
    · show ((T.val * 8 + n.val) * 64 + (32 + e.val)) / 512 = T.val; omega
    · show ((T.val * 8 + n.val) * 64 + (32 + e.val)) % 512 = 64 * n.val + (e.val + 32); omega
  have i2 : idx_main_v3 (idx_main_v10 (ix3 T n e)) = ix2 T e := by funext a; fin_cases a <;> rfl
  have i3 : idx_main_v4 (idx_main_v12 (ix3 T n e)) = ix2 T e := by funext a; fin_cases a <;> rfl
  rw [val_main_v14_apply, val_main_v11_apply, val_main_v13_apply, val_main_v1_apply, val_main_v2_apply, val_main_v0_apply, val_main_v0_apply,
    val_main_v10_apply, val_main_v12_apply, val_main_v3_apply, val_main_v4_apply, i0, i1, i2, i3]
  rfl

/-- A turned key's first half. -/
theorem ref_k_lo (T : Fin 16384) (n : Fin 2) (e : Fin 32) : val_main_v26 (F := Ideal) x1 x3 x4 (ix3 T n e)
    = x1 (ix2 T (at64 n ⟨e.val, by omega⟩)) * x3 (ix2 T e) - x1 (ix2 T (at64 n ⟨e.val + 32, by omega⟩)) * x4 (ix2 T e) := by
  have i0 : idx_main_v17 (idx_main_v18 (ix3 T n e)) = ix2 T (at64 n ⟨e.val, by omega⟩) := by
    funext a; apply Fin.ext; fin_cases a
    · show ((T.val * 2 + n.val) * 64 + e.val) / 128 = T.val; omega
    · show ((T.val * 2 + n.val) * 64 + e.val) % 128 = 64 * n.val + e.val; omega
  have i1 : idx_main_v17 (idx_main_v19 (ix3 T n e)) = ix2 T (at64 n ⟨e.val + 32, by omega⟩) := by
    funext a; apply Fin.ext; fin_cases a
    · show ((T.val * 2 + n.val) * 64 + (32 + e.val)) / 128 = T.val; omega
    · show ((T.val * 2 + n.val) * 64 + (32 + e.val)) % 128 = 64 * n.val + (e.val + 32); omega
  have i2 : idx_main_v20 (idx_main_v22 (ix3 T n e)) = ix2 T e := by funext a; fin_cases a <;> rfl
  have i3 : idx_main_v21 (idx_main_v24 (ix3 T n e)) = ix2 T e := by funext a; fin_cases a <;> rfl
  rw [val_main_v26_apply, val_main_v23_apply, val_main_v25_apply, val_main_v18_apply, val_main_v19_apply, val_main_v17_apply, val_main_v17_apply,
    val_main_v22_apply, val_main_v24_apply, val_main_v20_apply, val_main_v21_apply, i0, i1, i2, i3]
  rfl

/-- A turned key's second half. -/
theorem ref_k_hi (T : Fin 16384) (n : Fin 2) (e : Fin 32) : val_main_v31 (F := Ideal) x1 x3 x4 (ix3 T n e)
    = x1 (ix2 T (at64 n ⟨e.val + 32, by omega⟩)) * x3 (ix2 T e) + x1 (ix2 T (at64 n ⟨e.val, by omega⟩)) * x4 (ix2 T e) := by
  have i0 : idx_main_v17 (idx_main_v18 (ix3 T n e)) = ix2 T (at64 n ⟨e.val, by omega⟩) := by
    funext a; apply Fin.ext; fin_cases a
    · show ((T.val * 2 + n.val) * 64 + e.val) / 128 = T.val; omega
    · show ((T.val * 2 + n.val) * 64 + e.val) % 128 = 64 * n.val + e.val; omega
  have i1 : idx_main_v17 (idx_main_v19 (ix3 T n e)) = ix2 T (at64 n ⟨e.val + 32, by omega⟩) := by
    funext a; apply Fin.ext; fin_cases a
    · show ((T.val * 2 + n.val) * 64 + (32 + e.val)) / 128 = T.val; omega
    · show ((T.val * 2 + n.val) * 64 + (32 + e.val)) % 128 = 64 * n.val + (e.val + 32); omega
  have i2 : idx_main_v20 (idx_main_v27 (ix3 T n e)) = ix2 T e := by funext a; fin_cases a <;> rfl
  have i3 : idx_main_v21 (idx_main_v29 (ix3 T n e)) = ix2 T e := by funext a; fin_cases a <;> rfl
  rw [val_main_v31_apply, val_main_v28_apply, val_main_v30_apply, val_main_v18_apply, val_main_v19_apply, val_main_v17_apply, val_main_v17_apply,
    val_main_v27_apply, val_main_v29_apply, val_main_v20_apply, val_main_v21_apply, i0, i1, i2, i3]
  rfl

/-- Two halves side by side along the last axis are the turned vector. -/
theorem turn_halves {n : Nat} (lo hi : (⟨3, ![16384, n, 32]⟩ : Shape).Idx → EReal) (hc) (a : Fin 64 → EReal) (c s : Fin 32 → EReal)
    (T : Fin 16384) (g : Fin n) (hlo : ∀ e : Fin 32, lo (ix3 T g e) = a ⟨e.val, by omega⟩ * c e - a ⟨e.val + 32, by omega⟩ * s e)
    (hhi : ∀ e : Fin 32, hi (ix3 T g e) = a ⟨e.val + 32, by omega⟩ * c e + a ⟨e.val, by omega⟩ * s e) (d : Fin 64) :
    concatenate (⟨3, ![16384, n, 64]⟩ : Shape) 2 [⟨⟨3, ![16384, n, 32]⟩, lo⟩, ⟨⟨3, ![16384, n, 32]⟩, hi⟩] hc (ix3 T g d) = turn a c s d := by
  unfold turn
  split
  · rename_i h
    refine (concatenate_pair_apply_left (t := ⟨3, ![16384, n, 64]⟩) (s₁ := ⟨3, ![16384, n, 32]⟩) (s₂ := ⟨3, ![16384, n, 32]⟩) 2 lo hi hc _ rfl
      (ix3 T g ⟨d.val, h⟩) (fun b => by fin_cases b <;> rfl)).trans ((hlo _).trans ?_)
    rw [sub_eq_add_neg, neg_mul]
  · rename_i h
    refine (concatenate_pair_apply_right (t := ⟨3, ![16384, n, 64]⟩) (s₁ := ⟨3, ![16384, n, 32]⟩) (s₂ := ⟨3, ![16384, n, 32]⟩) 2 lo hi hc _ rfl rfl
      (ix3 T g ⟨d.val - 32, by omega⟩) (fun b hb => by fin_cases b; exacts [rfl, rfl, absurd rfl hb])
      (by show d.val - 32 + 32 = d.val; omega)).trans ((hhi _).trans ?_)
    have e : (⟨d.val - 32 + 32, by omega⟩ : Fin 64) = d := Fin.ext (by show d.val - 32 + 32 = d.val; omega)
    rw [e]

/-- The reference's turned queries. -/
theorem ref_q (T : Fin 16384) (n : Fin 8) (d : Fin 64) :
    val_main_v15 (F := Ideal) x0 x3 x4 (ix3 T n d) = query (fun T C => x0 (ix2 T C)) (fun T e => x3 (ix2 T e)) (fun T e => x4 (ix2 T e)) T n d := by
  unfold val_main_v15 query
  exact turn_halves _ _ _ (fun d => x0 (ix2 T (at64 n d))) _ _ T n (ref_q_lo x0 x3 x4 T n) (ref_q_hi x0 x3 x4 T n) d

/-- The reference's turned keys. -/
theorem ref_k (T : Fin 16384) (n : Fin 2) (d : Fin 64) :
    val_main_v32 (F := Ideal) x1 x3 x4 (ix3 T n d) = key (fun T C => x1 (ix2 T C)) (fun T e => x3 (ix2 T e)) (fun T e => x4 (ix2 T e)) T n d := by
  unfold val_main_v32 key
  exact turn_halves _ _ _ (fun d => x1 (ix2 T (at64 n d))) _ _ T n (ref_k_lo x1 x3 x4 T n) (ref_k_hi x1 x3 x4 T n) d

/-- The query head that a group and a head in it name. -/
def head8 (g : Fin 2) (h : Fin 4) : Fin 8 := ⟨4 * g.val + h.val, by omega⟩

/-- The turned queries by group, head, block and row. -/
theorem ref_q5 (g : Fin 2) (h : Fin 4) (b r : Fin 128) (d : Fin 64) : val_main_v36 (F := Ideal) x0 x3 x4 (ix5 g h b r d)
    = query (fun T C => x0 (ix2 T C)) (fun T e => x3 (ix2 T e)) (fun T e => x4 (ix2 T e)) (at128 b r) (head8 g h) d := by
  have i : idx_main_v16 (idx_main_v36 (ix5 g h b r d)) = ix3 (at128 b r) (head8 g h) d := by
    have := g.isLt; have := h.isLt; have := b.isLt; have := r.isLt; have := d.isLt
    funext a; apply Fin.ext; fin_cases a
    · show ((((g.val * 4 + h.val) * 128 + b.val) * 128 + r.val) * 64 + d.val) / 64 % 16384 = 128 * b.val + r.val; omega
    · show ((((g.val * 4 + h.val) * 128 + b.val) * 128 + r.val) * 64 + d.val) / 1048576 = 4 * g.val + h.val; omega
    · show ((((g.val * 4 + h.val) * 128 + b.val) * 128 + r.val) * 64 + d.val) % 64 = d.val; omega
  rw [val_main_v36_apply, val_main_v16_apply, i, ref_q]

/-- The turned keys by head, block and row. -/
theorem ref_k4 (g : Fin 2) (b k : Fin 128) (d : Fin 64) : val_main_v37 (F := Ideal) x1 x3 x4 (ix4 g b k d)
    = key (fun T C => x1 (ix2 T C)) (fun T e => x3 (ix2 T e)) (fun T e => x4 (ix2 T e)) (at128 b k) g d := by
  have i : idx_main_v33 (idx_main_v37 (ix4 g b k d)) = ix3 (at128 b k) g d := by
    have := g.isLt; have := b.isLt; have := k.isLt; have := d.isLt
    funext a; apply Fin.ext; fin_cases a
    · show (((g.val * 128 + b.val) * 128 + k.val) * 64 + d.val) / 64 % 16384 = 128 * b.val + k.val; omega
    · show (((g.val * 128 + b.val) * 128 + k.val) * 64 + d.val) / 1048576 = g.val; omega
    · show (((g.val * 128 + b.val) * 128 + k.val) * 64 + d.val) % 64 = d.val; omega
  rw [val_main_v37_apply, val_main_v33_apply, i, ref_k]

/-- The values by head, block and row. -/
theorem ref_v4 (g : Fin 2) (b k : Fin 128) (d : Fin 64) : val_main_v41 (F := Ideal) x2 (ix4 g b k d) = x2 (ix2 (at128 b k) (at64 g d)) := by
  have i : idx_main_v34 (idx_main_v35 (idx_main_v41 (ix4 g b k d))) = ix2 (at128 b k) (at64 g d) := by
    have := g.isLt; have := b.isLt; have := k.isLt; have := d.isLt
    have e : idx_main_v35 (idx_main_v41 (ix4 g b k d)) = ix3 (at128 b k) g d := by
      funext a; apply Fin.ext; fin_cases a
      · show (((g.val * 128 + b.val) * 128 + k.val) * 64 + d.val) / 64 % 16384 = 128 * b.val + k.val; omega
      · show (((g.val * 128 + b.val) * 128 + k.val) * 64 + d.val) / 1048576 = g.val; omega
      · show (((g.val * 128 + b.val) * 128 + k.val) * 64 + d.val) % 64 = d.val; omega
    rw [e]
    funext a; apply Fin.ext; fin_cases a
    · show (((128 * b.val + k.val) * 2 + g.val) * 64 + d.val) / 128 = 128 * b.val + k.val; omega
    · show (((128 * b.val + k.val) * 2 + g.val) * 64 + d.val) % 128 = 64 * g.val + d.val; omega
  rw [val_main_v41_apply, val_main_v35_apply, val_main_v34_apply, i]

/-- A block's window is the previous block then its own; what stands before the first block is not read. -/
theorem band (X : FVec Ideal S2x128x128x64 .f32) (z : FVec Ideal S_ .f32) (hp) (hu) (hs) (hc) (G : Fin 16384 → EReal) (g : Fin 2) (b : Fin 128) (d : Fin 64)
    (hX : ∀ b k : Fin 128, X (ix4 g b k d) = G (at128 b k)) (k : Fin 256) (hk : 0 < b.val ∨ 128 ≤ k.val) :
    concatenate S2x128x256x64 2 [⟨S2x128x128x64, extractStridedSlice S2x128x128x64 ![0, 0, 0, 0] (pad S2x129x128x64 ![0, 1, 0, 0] ![0, 0, 0, 0] ![0, 0, 0, 0] X z hp hu) hs⟩,
      ⟨S2x128x128x64, X⟩] hc (ix4 g b k d) = G (pos b k) := by
  by_cases h : k.val < 128
  · have hb : 0 < b.val := by omega
    refine (concatenate_pair_apply_left (t := S2x128x256x64) (s₁ := S2x128x128x64) (s₂ := S2x128x128x64) 2 _ X hc _ rfl (ix4 g b ⟨k.val, h⟩ d)
      (fun a => by fin_cases a <;> rfl)).trans ?_
    refine (extractStridedSlice_apply _ _ hs _ (ix4 (n1 := 129) g ⟨b.val, by omega⟩ ⟨k.val, h⟩ d) (fun a => by
      fin_cases a; exacts [(Nat.zero_add _).symm, (Nat.zero_add _).symm, (Nat.zero_add _).symm, (Nat.zero_add _).symm])).trans ?_
    refine (pad_apply_of_inside _ _ _ X z hp hu _ (ix4 g (⟨b.val - 1, by omega⟩ : Fin 128) ⟨k.val, h⟩ d) (fun a => ?_)).trans ((hX _ _).trans (congrArg G (Fin.ext ?_)))
    · fin_cases a
      · show g.val = 0 + g.val * 1; omega
      · show b.val = 1 + (b.val - 1) * 1; omega
      · show k.val = 0 + k.val * 1; omega
      · show d.val = 0 + d.val * 1; omega
    · show 128 * (b.val - 1) + k.val = if b.val = 0 ∧ k.val < 128 then k.val else 128 * b.val + k.val - 128
      rw [if_neg (by omega)]; omega
  · refine (concatenate_pair_apply_right (t := S2x128x256x64) (s₁ := S2x128x128x64) (s₂ := S2x128x128x64) 2 _ X hc _ rfl rfl (ix4 g b ⟨k.val - 128, by omega⟩ d)
      (fun a ha => by fin_cases a; exacts [rfl, rfl, absurd rfl ha, rfl]) (by show k.val - 128 + 128 = k.val; omega)).trans ((hX _ _).trans (congrArg G (Fin.ext ?_)))
    show 128 * b.val + (k.val - 128) = if b.val = 0 ∧ k.val < 128 then k.val else 128 * b.val + k.val - 128
    rw [if_neg (by omega)]; omega

/-- The keys of a window. -/
theorem ref_kw (g : Fin 2) (b : Fin 128) (k : Fin 256) (d : Fin 64) (hk : 0 < b.val ∨ 128 ≤ k.val) : val_main_v40 (F := Ideal) x1 x3 x4 (ix4 g b k d)
    = key (fun T C => x1 (ix2 T C)) (fun T e => x3 (ix2 T e)) (fun T e => x4 (ix2 T e)) (pos b k) g d := by
  unfold val_main_v40 val_main_v39 val_main_v38
  exact band _ _ _ _ _ _ (fun T => key (fun T C => x1 (ix2 T C)) (fun T e => x3 (ix2 T e)) (fun T e => x4 (ix2 T e)) T g d) g b d
    (fun b k => ref_k4 x1 x3 x4 g b k d) k hk

/-- The values of a window. -/
theorem ref_vw (g : Fin 2) (b : Fin 128) (k : Fin 256) (d : Fin 64) (hk : 0 < b.val ∨ 128 ≤ k.val) : val_main_v44 (F := Ideal) x2 (ix4 g b k d)
    = x2 (ix2 (pos b k) (at64 g d)) := by
  unfold val_main_v44 val_main_v43 val_main_v42
  exact band _ _ _ _ _ _ (fun T => x2 (ix2 T (at64 g d))) g b d (fun b k => ref_v4 x2 g b k d) k hk

end Cert.Swa
-- ==== Proof.Swa.RefOut.lean ====
/- The reference's sliding-window attention: its mask, scores, weights and result. -/
module

public import proofs.«01_k».proof.Proof.Swa.Ref

@[expose] public section

set_option maxRecDepth 16384

noncomputable section

namespace Cert.Swa

open Cert.Reference5Ideal Cert.Reference5Ideal.Gen Cert.Reference5Ideal.Read Idealize.ShloMosaic Idealize.SL.Sem

variable (x0 : Vec Ideal S16384x512 .f32) (x1 x2 : Vec Ideal S16384x128 .f32) (x3 x4 : Vec Ideal S16384x32 .f32) (x5 : Vec Ideal S8 .f32)

/-- The reference's mask at a block, a row and a place. -/
theorem ref_mask (b r : Fin 128) (k : Fin 256) : val_main_v76 (F := Ideal) (ix3 b r k) = if sees b.val r k then 1#1 else 0#1 := by
  have e0 := (by decide +kernel : ∀ (r : Fin 128) (k : Fin 256),
    IntOp.andi (IntOp.cmpi .sge (IntOp.subi (IntOp.addi (BitVec.ofNat 32 r.val) 128#32) (BitVec.ofNat 32 k.val)) 0#32)
      (IntOp.cmpi .slt (IntOp.subi (IntOp.addi (BitVec.ofNat 32 r.val) 128#32) (BitVec.ofNat 32 k.val)) 128#32)
      = if k.val ≤ r.val + 128 ∧ r.val < k.val then 1#1 else 0#1) r k
  have e1 := (by decide +kernel : ∀ (b : Fin 128) (k : Fin 256),
    IntOp.ori (IntOp.cmpi .sgt (BitVec.ofNat 32 b.val) 0#32) (IntOp.cmpi .sge (BitVec.ofNat 32 k.val) 128#32)
      = if 0 < b.val ∨ 128 ≤ k.val then 1#1 else 0#1) b k
  refine (show val_main_v76 (F := Ideal) (ix3 b r k) = IntOp.andi
    (IntOp.andi (IntOp.cmpi .sge (IntOp.subi (IntOp.addi (BitVec.ofNat 32 r.val) 128#32) (BitVec.ofNat 32 k.val)) 0#32)
      (IntOp.cmpi .slt (IntOp.subi (IntOp.addi (BitVec.ofNat 32 r.val) 128#32) (BitVec.ofNat 32 k.val)) 128#32))
    (IntOp.ori (IntOp.cmpi .sgt (BitVec.ofNat 32 b.val) 0#32) (IntOp.cmpi .sge (BitVec.ofNat 32 k.val) 128#32)) from ?_).trans ?_
  · pointwise [val_main_v76, val_main_v75, val_main_v74, val_main_v73, val_main_v72, val_main_v71, val_main_v70, val_main_v69, val_main_v68, val_main_v67,
      val_main_v66, val_main_v65, val_main_v64, val_main_v63, val_main_v62, val_main_v61, val_main_v60, val_main_v59, val_main_v58, val_main_v57, val_main_v56,
      val_main_v55, val_main_v54, val_main_v53, val_main_v52, val_main_v51, val_main_v50, val_main_v49, val_main_c_1, val_main_c_2, val_main_c_3, val_main_c_4, val_main_c_5]
    try rfl
  · rw [e0, e1]
    unfold sees
    by_cases h0 : k.val ≤ r.val + 128 ∧ r.val < k.val <;> by_cases h1 : 0 < b.val ∨ 128 ≤ k.val <;> simp only [h0, h1, and_true, and_false, if_true, if_false] <;> rfl

/-- The reference's turned queries of a position's head. -/
abbrev refQuery : Fin 16384 → Fin 8 → Fin 64 → EReal := query (fun T C => x0 (ix2 T C)) (fun T e => x3 (ix2 T e)) (fun T e => x4 (ix2 T e))

/-- The reference's turned keys of a position's head. -/
abbrev refKey : Fin 16384 → Fin 2 → Fin 64 → EReal := key (fun T C => x1 (ix2 T C)) (fun T e => x3 (ix2 T e)) (fun T e => x4 (ix2 T e))

/-- The reference's masked scores. -/
theorem ref_score (g : Fin 2) (h : Fin 4) (b r : Fin 128) (k : Fin 256) : val_main_v77 (F := Ideal) x0 x1 x3 x4 (ix5 g h b r k)
    = score b.val r (refQuery x0 x3 x4 (at128 b r) (head8 g h)) (fun p => refKey x1 x3 x4 (pos b p) g) k := by
  have hq := fun d => ref_q5 x0 x3 x4 g h b r d
  have hk := fun d => ref_kw x1 x3 x4 g b k d
  have hm := ref_mask b r k
  have e : val_main_v77 (F := Ideal) x0 x1 x3 x4 (ix5 g h b r k) = Scalar.select (val_main_v76 (F := Ideal) (ix3 b r k))
      ((∑ d, val_main_v40 (F := Ideal) x1 x3 x4 (ix4 g b k d) * val_main_v36 (F := Ideal) x0 x3 x4 (ix5 g h b r d)) * Ideal.ofBits .f32 0x3E000000#32)
      (Ideal.ofBits .f32 0xFF800000#32) := by
    unfold val_main_v77 val_main_call2_v2 val_main_call2_v1 val_main_call2_v0 val_main_cst_6 val_main_v48 val_main_v47 val_main_cst val_main_v46 val_main_v45
    generalize val_main_v36 (F := Ideal) x0 x3 x4 = Q
    generalize val_main_v40 (F := Ideal) x1 x3 x4 = K
    generalize val_main_v76 (F := Ideal) = M
    pointwise []
    try rfl
  rw [e, hm, minus_inf]
  unfold score
  by_cases hs : sees b.val r k
  · rw [if_pos hs, if_pos hs]
    refine (show Scalar.select (1#1) _ _ = _ from rfl).trans (congrArg (· * _) (Finset.sum_congr rfl fun d _ => ?_))
    rw [hq, hk d hs.2, mul_comm]
  · rw [if_neg hs, if_neg hs]
    rfl

/-- The host's maximum over the last of five axes, read at an index. -/
theorem hostMax_five {a b c d n : Nat} {u : Shape} (v : FVec Ideal ⟨5, ![a, b, c, d, n]⟩ .f32) (z : FVec Ideal u .f32)
    (h : (⟨5, ![a, b, c, d, n]⟩ : Shape).ReducesTo [4] ⟨4, ![a, b, c, d]⟩) (hu : 0 < u.numel) (i : Fin a) (j : Fin b) (k : Fin c) (l : Fin d) :
    Host.reduce FloatOps.maximumf v z h hu (ix4 i j k l)
      = Finset.univ.fold max (z (Shape.Idx.first hu)) fun e : Fin n => v (ix5 i j k l e) := by
  simp only [pointwise]

/-- The reference's largest score and sink. -/
theorem ref_peak (g : Fin 2) (h : Fin 4) (b r : Fin 128) (o : Fin 1) : val_main_v82 (F := Ideal) x0 x1 x3 x4 x5 (ix5 g h b r o)
    = peak (fun k => val_main_v77 (F := Ideal) x0 x1 x3 x4 (ix5 g h b r k)) (x5 (ix1 (head8 g h))) := by
  have i0 : idx_main_v80 (ix5 g h b r o) = ix4 g h b r := funext fun a => by fin_cases a <;> rfl
  have i1 : idx_main_v78 (idx_main_v81 (ix5 g h b r o)) = ix1 (head8 g h) := by
    funext a; apply Fin.ext; fin_cases a
    show (((g.val * 4 + h.val) * 1 + 0) * 1 + 0) * 1 + 0 = 4 * g.val + h.val
    omega
  have hM : val_main_v79 (F := Ideal) x0 x1 x3 x4 (ix4 g h b r)
      = Finset.univ.fold max (Ideal.ofBits .f32 0xFF800000#32) fun k => val_main_v77 (F := Ideal) x0 x1 x3 x4 (ix5 g h b r k) := by
    unfold val_main_v79
    generalize val_main_v77 (F := Ideal) x0 x1 x3 x4 = s
    refine (hostMax_five s _ _ _ g h b r).trans ?_
    rw [val_main_cst_7_apply]
    rfl
  rw [val_main_v82_apply, val_main_v80_apply, val_main_v81_apply, val_main_v78_apply, i0, i1, hM]
  rfl

/-- The reference's weights. -/
theorem ref_weight (g : Fin 2) (h : Fin 4) (b r : Fin 128) (k : Fin 256) : val_main_v85 (F := Ideal) x0 x1 x3 x4 x5 (ix5 g h b r k)
    = weight (fun k => val_main_v77 (F := Ideal) x0 x1 x3 x4 (ix5 g h b r k)) (x5 (ix1 (head8 g h))) k := by
  have i : idx_main_v83 (ix5 g h b r k) = ix5 g h b r 0 := funext fun a => by fin_cases a <;> rfl
  rw [val_main_v85_apply, val_main_v84_apply, val_main_v83_apply, i, ref_peak]
  rfl

/-- What the reference divides by. -/
theorem ref_total (g : Fin 2) (h : Fin 4) (b r : Fin 128) (o : Fin 1) : val_main_v91 (F := Ideal) x0 x1 x3 x4 x5 (ix5 g h b r o)
    = total (fun k => val_main_v77 (F := Ideal) x0 x1 x3 x4 (ix5 g h b r k)) (x5 (ix1 (head8 g h))) := by
  have i0 : idx_main_v87 (ix5 g h b r o) = ix4 g h b r := funext fun a => by fin_cases a <;> rfl
  have i1 : idx_main_v78 (idx_main_v88 (ix5 g h b r o)) = ix1 (head8 g h) := by
    funext a; apply Fin.ext; fin_cases a
    show (((g.val * 4 + h.val) * 1 + 0) * 1 + 0) * 1 + 0 = 4 * g.val + h.val
    omega
  have hs : val_main_v86 (F := Ideal) x0 x1 x3 x4 x5 (ix4 g h b r) = ∑ k, val_main_v85 (F := Ideal) x0 x1 x3 x4 x5 (ix5 g h b r k) := by
    unfold val_main_v86 val_main_cst_8
    generalize val_main_v85 (F := Ideal) x0 x1 x3 x4 x5 = w
    pointwise []
  rw [val_main_v91_apply, val_main_v87_apply, val_main_v90_apply, val_main_v89_apply, val_main_v88_apply, val_main_v78_apply, i0, i1, ref_peak, hs]
  unfold total
  refine congrArg (· + _) (Finset.sum_congr rfl fun k _ => ref_weight x0 x1 x3 x4 x5 g h b r k)

/-- The reference's averaged values by group, head, block and row. -/
theorem ref_avg (hs : ∀ (g : Fin 2) (h : Fin 4) (b r : Fin 128) (k : Fin 256), val_main_v77 (F := Ideal) x0 x1 x3 x4 (ix5 g h b r k) ≠ ⊤)
    (hz : ∀ n, IsReal (x5 (ix1 n))) (g : Fin 2) (h : Fin 4) (b r : Fin 128) (d : Fin 64) :
    val_main_v95 (F := Ideal) x0 x1 x2 x3 x4 x5 (ix5 g h b r d)
      = average (fun k => val_main_v77 (F := Ideal) x0 x1 x3 x4 (ix5 g h b r k)) (x5 (ix1 (head8 g h))) (fun k => x2 (ix2 (pos b k) (at64 g d))) := by
  have e : val_main_v95 (F := Ideal) x0 x1 x2 x3 x4 x5 (ix5 g h b r d)
      = ∑ k, val_main_v44 (F := Ideal) x2 (ix4 g b k d) * val_main_v93 (F := Ideal) x0 x1 x3 x4 x5 (ix5 g h b r k) := by
    unfold val_main_v95 val_main_v94
    generalize val_main_v93 (F := Ideal) x0 x1 x3 x4 x5 = P
    generalize val_main_v44 (F := Ideal) x2 = V
    pointwise []
  have w : ∀ k, val_main_v93 (F := Ideal) x0 x1 x3 x4 x5 (ix5 g h b r k)
      = Ideal.div (weight (fun k => val_main_v77 (F := Ideal) x0 x1 x3 x4 (ix5 g h b r k)) (x5 (ix1 (head8 g h))) k)
        (total (fun k => val_main_v77 (F := Ideal) x0 x1 x3 x4 (ix5 g h b r k)) (x5 (ix1 (head8 g h)))) := fun k => by
    have i : idx_main_v92 (ix5 g h b r k) = ix5 g h b r 0 := funext fun a => by fin_cases a <;> rfl
    rw [val_main_v93_apply, val_main_v92_apply, i, ref_total, ref_weight]
    rfl
  have z := hz (head8 g h)
  rw [e]
  refine (Finset.sum_congr rfl fun k _ => (by rw [w, mul_comm] :
    val_main_v44 (F := Ideal) x2 (ix4 g b k d) * val_main_v93 (F := Ideal) x0 x1 x3 x4 x5 (ix5 g h b r k) = _)).trans
    ((average_eq (hs g h b r) z.1 z.2 _).trans (average_congr fun k => ?_))
  by_cases hk : 0 < b.val ∨ 128 ≤ k.val
  · exact Or.inr (ref_vw x2 g b k d hk)
  · refine Or.inl ((ref_score x0 x1 x3 x4 g h b r k).trans ?_)
    unfold score
    rw [if_neg fun s => hk s.2]

/-- The reference's result at a position and a column, of real queries, keys, angles and sinks. -/
theorem ref_out (h0 : ∀ T C, IsReal (x0 (ix2 T C))) (h1 : ∀ T C, IsReal (x1 (ix2 T C))) (h3 : ∀ T e, IsReal (x3 (ix2 T e)))
    (h4 : ∀ T e, IsReal (x4 (ix2 T e))) (h5 : ∀ n, IsReal (x5 (ix1 n))) (T : Fin 16384) (C : Fin 512) :
    val_main_v99 (F := Ideal) x0 x1 x2 x3 x4 x5 (ix2 T C)
      = attention (fun T C => x0 (ix2 T C)) (fun T C => x1 (ix2 T C)) (fun T C => x2 (ix2 T C)) (fun T e => x3 (ix2 T e)) (fun T e => x4 (ix2 T e))
          (fun n => x5 (ix1 n)) T C := by
  have i : idx_main_v96 (idx_main_v97 (idx_main_v98 (ix2 T C)))
      = ix5 ⟨C.val / 256, by omega⟩ ⟨C.val / 64 % 4, by omega⟩ ⟨T.val / 128, by omega⟩ ⟨T.val % 128, by omega⟩ ⟨C.val % 64, by omega⟩ := by
    have e : idx_main_v97 (idx_main_v98 (ix2 T C)) = ix3 ⟨C.val / 64, by omega⟩ T ⟨C.val % 64, by omega⟩ := by
      funext a; apply Fin.ext; fin_cases a
      · show (T.val * 512 + C.val) / 64 % 8 = C.val / 64; omega
      · show (T.val * 512 + C.val) / 512 = T.val; omega
      · show (T.val * 512 + C.val) % 64 = C.val % 64; omega
    rw [e]
    funext a; apply Fin.ext; fin_cases a
    · show ((C.val / 64 * 16384 + T.val) * 64 + C.val % 64) / 4194304 = C.val / 256; omega
    · show ((C.val / 64 * 16384 + T.val) * 64 + C.val % 64) / 1048576 % 4 = C.val / 64 % 4; omega
    · show ((C.val / 64 * 16384 + T.val) * 64 + C.val % 64) / 8192 % 128 = T.val / 128; omega
    · show ((C.val / 64 * 16384 + T.val) * 64 + C.val % 64) / 64 % 128 = T.val % 128; omega
    · show ((C.val / 64 * 16384 + T.val) * 64 + C.val % 64) % 64 = C.val % 64; omega
  have hs : ∀ (g : Fin 2) (h : Fin 4) (b r : Fin 128) (k : Fin 256), val_main_v77 (F := Ideal) x0 x1 x3 x4 (ix5 g h b r k) ≠ ⊤ := fun g h b r k => by
    rw [ref_score]
    exact score_ne_top (fun d => turn_real (fun d => h0 _ _) (h3 _) (h4 _) d) (fun p d => turn_real (fun d => h1 _ _) (h3 _) (h4 _) d) k
  refine (val_main_v99_apply x0 x1 x2 x3 x4 x5 (ix2 T C)).trans ?_
  refine (show _ = val_main_v98 (F := Ideal) x0 x1 x2 x3 x4 x5 (ix2 T C) from rfl).trans ?_
  rw [val_main_v98_apply, val_main_v97_apply, val_main_v96_apply, i, ref_avg x0 x1 x2 x3 x4 x5 hs h5]
  unfold attention attend
  have eg : (⟨C.val / 256, by omega⟩ : Fin 2) = grp8 ⟨C.val / 64, by omega⟩ := Fin.ext (by show C.val / 256 = C.val / 64 / 4; omega)
  have eh : head8 ⟨C.val / 256, by omega⟩ ⟨C.val / 64 % 4, by omega⟩ = ⟨C.val / 64, by omega⟩ :=
    Fin.ext (by show 4 * (C.val / 256) + C.val / 64 % 4 = C.val / 64; omega)
  simp only [ref_score, eh]
  rw [eg]

end Cert.Swa
-- ==== Proof.Swa.Pre.lean ====
/- What the precondition says: the queries, keys, angles and sinks are real numbers. -/
module

public import proofs.«01_k».proof.Pre_finite
public import proofs.«01_k».proof.Proof.Swa.Attend
public import Idealize.ShloMosaic.Lib.ReduceAll
public import Idealize.ShloMosaic.Lib.Pointwise

@[expose] public section

set_option maxRecDepth 16384

noncomputable section

namespace Cert.Swa

open Cert.Pre_finite Idealize.ShloMosaic

/-- The shapes that the precondition's operations take. -/
instance preFacts : Cert.Pre_finite.Facts where
  bcast_S_S16384x512 := by decide
  reducesTo_S16384x512_S_d0_1 := by decide
  h_S_ := by decide
  bcast_S_S16384x128 := by decide
  reducesTo_S16384x128_S_d0_1 := by decide
  bcast_S_S16384x32 := by decide
  reducesTo_S16384x32_S_d0_1 := by decide
  bcast_S_S8 := by decide
  reducesTo_S8_S_d0 := by decide

/-- The pattern of plus infinity. -/
theorem plus_inf : Ideal.ofBits .f32 0x7F800000#32 = ⊤ := by
  simp [Ideal.ofBits, Ideal.ieee]

/-- An element strictly between the infinities is a real number. -/
theorem real_of {s : Shape} (a : FVec Ideal s .f32) (hb : S_.BroadcastsInDim s (![] : Fin 0 → Fin s.rank)) (i : s.Idx)
    (h : andi (cmpf .olt a (broadcastInDim s ![] hb (constant S_ .f32 0x7F800000#32)))
      (cmpf .ogt a (broadcastInDim s ![] hb (constant S_ .f32 0xFF800000#32))) i = 1#1) : IsReal (a i) := by
  have h' : IntOp.andi (Ideal.cmp .olt (a i) (Ideal.ofBits .f32 0x7F800000#32)) (Ideal.cmp .ogt (a i) (Ideal.ofBits .f32 0xFF800000#32)) = 1#1 := h
  rw [plus_inf, minus_inf] at h'
  obtain ⟨h0, h1⟩ := IntOp.andi_eq_one.1 h'
  constructor
  · intro e
    rw [e] at h1
    simp [Ideal.cmp] at h1
  · intro e
    rw [e] at h0
    simp [Ideal.cmp] at h0

instance : Subsingleton S_.Idx := ⟨fun a b => funext fun i => i.elim0⟩

/-- The precondition, read. -/
theorem finite_real {a0 : FVec Ideal S16384x512 .f32} {a1 a2 : FVec Ideal S16384x128 .f32} {a3 a4 : FVec Ideal S16384x32 .f32} {a5 : FVec Ideal S8 .f32}
    (h : Cert.Pre_finite.fn (F := Ideal) a0 a1 a2 a3 a4 a5 = fun _ => 1#1) :
    (∀ i, IsReal (a0 i)) ∧ (∀ i, IsReal (a1 i)) ∧ (∀ i, IsReal (a3 i)) ∧ (∀ i, IsReal (a4 i)) ∧ ∀ i, IsReal (a5 i) := by
  have h := congrFun h ix0
  obtain ⟨h, e5⟩ := IntOp.andi_eq_one.1 h
  obtain ⟨h, e4⟩ := IntOp.andi_eq_one.1 h
  obtain ⟨h, e3⟩ := IntOp.andi_eq_one.1 h
  obtain ⟨e0, e1⟩ := IntOp.andi_eq_one.1 h
  exact ⟨fun i => real_of a0 _ i (Host.reduce_andi_all _ _ _ _ _ e0 i), fun i => real_of a1 _ i (Host.reduce_andi_all _ _ _ _ _ e1 i),
    fun i => real_of a3 _ i (Host.reduce_andi_all _ _ _ _ _ e3 i), fun i => real_of a4 _ i (Host.reduce_andi_all _ _ _ _ _ e4 i),
    fun i => real_of a5 _ i (Host.reduce_andi_all _ _ _ _ _ e5 i)⟩

end Cert.Swa
-- ==== Proof.Swa.Value.lean ====
/- The sliding-window attention: the kernel's blocks tile the result, and each element is the reference's. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Swa.Point
public import proofs.«01_k».proof.Proof.Swa.RefOut
public import proofs.«01_k».proof.Proof.Swa.Pre
public import Idealize.ShloMosaic.Lib.Pipeline.ValueKit
public import Idealize.ShloMosaic.Lib.Pointwise
public import Idealize.ShloMosaic.Lib.Quiescent

@[expose] public section

set_option maxRecDepth 16384

noncomputable section

namespace Cert.Swa

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ) (ρ : Dev nD → PrngReg)

/-- The attention over whole arrays. -/
def attended (q : Vec Ideal S16384x512 .f32) (k v : Vec Ideal S16384x128 .f32) (cs sn : Vec Ideal S16384x32 .f32) (z : Vec Ideal S8 .f32) :
    Vec Ideal S16384x512 .bf16 := fun i =>
  attention (fun T C => q (ix2 T C)) (fun T C => k (ix2 T C)) (fun T C => v (ix2 T C)) (fun T e => cs (ix2 T e)) (fun T e => sn (ix2 T e))
    (fun n => z (ix1 n)) (i 0) (i 1)

/-- The result array of the kernel's run. -/
abbrev out (c : Dev nD) : Vec Ideal S16384x512 .bf16 :=
  attended (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- A grid point's block of the result is the attention at the place the block sits. -/
theorem point (c : Dev nD) (H : Reals m c) (t : Fin cfg0.N) (y : S512x512.Idx) :
    outsAt0 m c t y = out m c (((cfg0.win 15).blk t).view.emb y) := by
  idx_vars y
  exact block_value m c t H (ix2 y0 y1) ((((cfg0.win 15).blk t).view.emb (ix2 y0 y1)) 0) ((((cfg0.win 15).blk t).view.emb (ix2 y0 y1)) 1)
    (by blk_simp [idx t]; omega) (by blk_simp [idx t])

/-- The result array after the run. -/
theorem final (c : Dev nD) (H : Reals m c) : (dats m 0 c).arrAt 15 cfg0.N = out m c := by
  refine (dats m 0 c).arrAt_eq_of_covers 15 _ (by decide +kernel) fun t _ y => ?_
  blk_simp
  rw [after0_15]
  exact point m c H t y

/-- The kernel's run: the result array at the attention of the arguments, the arguments unchanged. -/
theorem runK (H : ∀ c, Reals m c) : θ_run defs (onTc (τ := τ) (main (F := Ideal))) ⟨m, fun _ => 0, ρ⟩ fun r => ∀ c : Dev nD,
      r.2.mem ((c : Thread nD τ).loc main_v29) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c (H c)), (h c).2⟩) (Cert.Kernel5Ideal.Value.run_blocks m ρ)

/-- The reference's result over whole arrays is the attention. -/
theorem ref_attended (q : Vec Ideal S16384x512 .f32) (k v : Vec Ideal S16384x128 .f32) (cs sn : Vec Ideal S16384x32 .f32) (z : Vec Ideal S8 .f32)
    (h0 : ∀ T C, IsReal (q (ix2 T C))) (h1 : ∀ T C, IsReal (k (ix2 T C))) (h3 : ∀ T e, IsReal (cs (ix2 T e)))
    (h4 : ∀ T e, IsReal (sn (ix2 T e))) (h5 : ∀ n, IsReal (z (ix1 n))) :
    Cert.Reference5Ideal.Read.val_main_v99 (F := Ideal) q k v cs sn z = attended q k v cs sn z := by
  funext i
  idx_vars i
  exact ref_out q k v cs sn z h0 h1 h3 h4 h5 _ _

/-- The precondition makes the inputs of the scores real numbers. -/
theorem reals (h : Cert.Pre_Kernel5Ideal_finite m) (c : Dev nD) : Reals m c :=
  have p := finite_real (h c)
  ⟨fun T C => p.1 _, fun T C => p.2.1 _, fun T e => p.2.2.1 _, fun T e => p.2.2.2.1 _, fun n => p.2.2.2.2 _⟩

/-- The reference keeps its arguments and leaves every counter at zero. -/
theorem frameR : Cert.quiescent_Reference5Ideal (hReference5Ideal := Cert.Reference5Ideal.Gen.facts) := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- So it does under the precondition. -/
theorem frameR_finite : Cert.quiescent_Reference5Ideal_pre_finite (hReference5Ideal := Cert.Reference5Ideal.Gen.facts) := fun m ρ _ => frameR m ρ trivial

/-- The kernel's mask value is the constant named minus infinity. -/
theorem preserves : Cert.preserves_Kernel5_Kernel5Ideal :=
  IdealRules.named_const.statement Cert.Kernel5Ideal.κ "mask" .f32 0xF149F2CA#32 ⊥ rfl

/-- Kernel and reference end with the same array on the extended reals, from equal arguments of which those in the scores are real. -/
theorem algebraic : Cert.algebraic_Kernel5Ideal_Reference5Ideal_pre_finite (hKernel5Ideal := Cert.Kernel5Ideal.Gen.facts)
    (hReference5Ideal := Cert.Reference5Ideal.Gen.facts) := fun m ρ m' ρ' hpre hag => by
  have H := reals m hpre
  refine ⟨fun c => out m c, runK m ρ H, (θ_run _ _ _).mono (fun _ h c => ⟨(h c).1.trans ?_, (h c).2⟩)
    (Cert.Reference5Ideal.Value.run (F := Ideal) m' ρ')⟩
  obtain ⟨h0, h1, h2, h3, h4, h5⟩ := hag c
  rw [Cert.Reference5Ideal.Read.val_main_v99_eq, h0, h1, h2, h3, h4, h5]
  exact ref_attended _ _ _ _ _ _ (H c).queries (H c).keys (H c).cosines (H c).sines (H c).sinks

end Cert.Swa
-- ==== Proof.lean ====
module

public import proofs.«01_k».proof.Defs
public import proofs.«01_k».proof.Proof.Xattn.Value
public import proofs.«01_k».proof.Proof.Memkv.Value
public import proofs.«01_k».proof.Proof.Proj.Value
public import proofs.«01_k».proof.Proof.Merge.Value
public import proofs.«01_k».proof.Proof.Swa.Value
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame

@[expose] public section

noncomputable section

namespace Cert.Proof

open Idealize.ShloMosaic Idealize.SL.Sem

/-- Everything this directory claims. -/
theorem claim : Cert.Claim :=
  ⟨Cert.Kernel.Gen.facts,
   Cert.KernelIdeal.Gen.facts,
   Cert.ReferenceIdeal.Gen.facts,
   Cert.Kernel2.Gen.facts,
   Cert.Kernel2Ideal.Gen.facts,
   Cert.Reference2Ideal.Gen.facts,
   Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Swa.preFacts,
   fun m ρ _ => Cert.Kernel.Gen.frame m ρ,
   fun m ρ _ => Cert.KernelIdeal.Gen.frame m ρ,
   Cert.Xattn.frameR,
   fun m ρ _ => Cert.Kernel2.Gen.frame m ρ,
   fun m ρ _ => Cert.Kernel2Ideal.Gen.frame m ρ,
   Cert.Memkv.frameR,
   Cert.Proj.frameWords,
   Cert.Proj.frameK,
   Cert.Proj.frameR,
   fun m ρ _ => Cert.Kernel4.Gen.frame m ρ,
   fun m ρ _ => Cert.Kernel4Ideal.Gen.frame m ρ,
   Cert.Merge.frameR,
   fun m ρ _ => Cert.Kernel5.Gen.frame m ρ,
   fun m ρ _ => Cert.Kernel5Ideal.Gen.frame m ρ,
   fun m ρ _ => Cert.Kernel5Ideal.Gen.frame m ρ,
   Cert.Swa.frameR,
   Cert.Swa.frameR_finite,
   trivial,
   Cert.Xattn.algebraic,
   trivial,
   Cert.Memkv.algebraic,
   trivial,
   Cert.Proj.algebraic,
   trivial,
   Cert.Merge.algebraic,
   Cert.Swa.preserves,
   Cert.Swa.algebraic⟩

end Cert.Proof

end
